-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ids_sorted [hPre_ids_sorted : Cert.Pre_ids_sorted.Facts] (m : (ℓ : Loc Cert.KernelIdeal.nD Cert.KernelIdeal.τ Cert.KernelIdeal.sig) → Buf (Elt Ideal) ℓ) : Prop :=
  ∀ c : Dev Cert.KernelIdeal.nD,
    (Cert.Pre_ids_sorted.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ids_sorted [hPre_ids_sorted : Cert.Pre_ids_sorted.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ids_sorted.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_ids_sorted [hKernelIdeal : Cert.KernelIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ids_sorted m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_ids_sorted [hReferenceIdeal : Cert.ReferenceIdeal.Facts] [hPre_ids_sorted : Cert.Pre_ids_sorted.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ids_sorted m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  True

def algebraic_KernelIdeal_ReferenceIdeal_pre_ids_sorted [hKernelIdeal : Cert.KernelIdeal.Facts] [hReferenceIdeal : Cert.ReferenceIdeal.Facts] [hPre_ids_sorted : Cert.Pre_ids_sorted.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ids_sorted m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_ids_sorted : Cert.Pre_ids_sorted.Facts),
    quiescent_Kernel (hKernel := hKernel)
    ∧ quiescent_KernelIdeal (hKernelIdeal := hKernelIdeal)
    ∧ quiescent_KernelIdeal_pre_ids_sorted (hKernelIdeal := hKernelIdeal) (hPre_ids_sorted := hPre_ids_sorted)
    ∧ quiescent_ReferenceIdeal (hReferenceIdeal := hReferenceIdeal)
    ∧ quiescent_ReferenceIdeal_pre_ids_sorted (hReferenceIdeal := hReferenceIdeal) (hPre_ids_sorted := hPre_ids_sorted)
    ∧ preserves_Kernel_KernelIdeal
    ∧ algebraic_KernelIdeal_ReferenceIdeal_pre_ids_sorted (hKernelIdeal := hKernelIdeal) (hReferenceIdeal := hReferenceIdeal) (hPre_ids_sorted := hPre_ids_sorted)
-- ==== Pre_ids_sorted.lean ====
abbrev S22x512x32000 : Shape := ⟨3, ![22, 512, 32000]⟩
abbrev S22x512x250 : Shape := ⟨3, ![22, 512, 250]⟩
abbrev S22x512x2560 : Shape := ⟨3, ![22, 512, 2560]⟩
abbrev S22x512 : Shape := ⟨2, ![22, 512]⟩
abbrev S11264x2560 : Shape := ⟨2, ![11264, 2560]⟩
abbrev S11264 : Shape := ⟨1, ![11264]⟩
abbrev S32000x2560 : Shape := ⟨2, ![32000, 2560]⟩
abbrev S11263 : Shape := ⟨1, ![11263]⟩

class Facts : Prop where
  slices_S11264_S11263_0 : S11264.Slices ![0] S11263
  slices_S11264_S11263_1 : S11264.Slices ![1] S11263

variable [Facts]

def fn {F : FTy → Type} [FloatOps F] (main_arg0 : FVec F S22x512x32000 .fp8e5m2) (main_arg1 : FVec F S22x512x250 .f32) (main_arg2 : FVec F S22x512x2560 .fp8e4m3) (main_arg3 : FVec F S22x512 .f32) (main_arg4 : FVec F S11264x2560 .fp8e5m2) (main_arg5 : FVec F S11264 .f32) (main_arg6 : IVec S11264 32) (main_arg7 : FVec F S32000x2560 .f32) : IVec S11263 1 :=
  let main_v0 : IVec S11263 32 := (extractStridedSlice S11263 ![0] · slices_S11264_S11263_0) main_arg6
  let main_v1 : IVec S11263 32 := (extractStridedSlice S11263 ![1] · slices_S11264_S11263_1) main_arg6
  let main_v2 : IVec S11263 1 := cmpi .sle main_v0 main_v1
  main_v2
-- ==== Kernel.lean ====
abbrev S22x512x32000 : Shape := ⟨3, ![22, 512, 32000]⟩
abbrev S22x512x250 : Shape := ⟨3, ![22, 512, 250]⟩
abbrev S22x512x2560 : Shape := ⟨3, ![22, 512, 2560]⟩
abbrev S22x512 : Shape := ⟨2, ![22, 512]⟩
abbrev S11264x2560 : Shape := ⟨2, ![11264, 2560]⟩
abbrev S11264 : Shape := ⟨1, ![11264]⟩
abbrev S32000x2560 : Shape := ⟨2, ![32000, 2560]⟩
abbrev S11264x32000 : Shape := ⟨2, ![11264, 32000]⟩
abbrev S11264x250 : Shape := ⟨2, ![11264, 250]⟩
abbrev S250x11264 : Shape := ⟨2, ![250, 11264]⟩
abbrev S125x2x11264 : Shape := ⟨3, ![125, 2, 11264]⟩
abbrev S1x11264 : Shape := ⟨2, ![1, 11264]⟩
abbrev S126 : Shape := ⟨1, ![126]⟩
abbrev S_ : Shape := ⟨0, ![]⟩
abbrev S126x1 : Shape := ⟨2, ![126, 1]⟩
abbrev S126x11264 : Shape := ⟨2, ![126, 11264]⟩
abbrev S2816x256 : Shape := ⟨2, ![2816, 256]⟩
abbrev S1x2x2816 : Shape := ⟨3, ![1, 2, 2816]⟩
abbrev S1x2816 : Shape := ⟨2, ![1, 2816]⟩
abbrev S256x2560 : Shape := ⟨2, ![256, 2560]⟩
abbrev S256x2816 : Shape := ⟨2, ![256, 2816]⟩
abbrev S1x1x2816 : Shape := ⟨3, ![1, 1, 2816]⟩
abbrev S128x2816 : Shape := ⟨2, ![128, 2816]⟩
abbrev S2816x2560 : Shape := ⟨2, ![2816, 2560]⟩
abbrev S1 : Shape := ⟨1, ![1]⟩
abbrev S1x256 : Shape := ⟨2, ![1, 256]⟩
abbrev S256x256 : Shape := ⟨2, ![256, 256]⟩

abbrev nBuf : Space → Nat
  | .hbm => 28
  | .vmem => 14
  | .smem => 1
  | _ => 0

abbrev bufTy : (tb : Table) → Fin (tcTables nBuf tb) → BufTy
  | .hbm, ⟨0, _⟩ => ⟨S22x512x32000, .fp8e5m2⟩
  | .hbm, ⟨1, _⟩ => ⟨S22x512x250, .f32⟩
  | .hbm, ⟨2, _⟩ => ⟨S22x512x2560, .fp8e4m3⟩
  | .hbm, ⟨3, _⟩ => ⟨S22x512, .f32⟩
  | .hbm, ⟨4, _⟩ => ⟨S11264x2560, .fp8e5m2⟩
  | .hbm, ⟨5, _⟩ => ⟨S11264, .f32⟩
  | .hbm, ⟨6, _⟩ => ⟨S11264, .i32⟩
  | .hbm, ⟨7, _⟩ => ⟨S32000x2560, .f32⟩
  | .hbm, ⟨8, _⟩ => ⟨S11264x32000, .fp8e5m2⟩
  | .hbm, ⟨9, _⟩ => ⟨S11264x250, .f32⟩
  | .hbm, ⟨10, _⟩ => ⟨S250x11264, .f32⟩
  | .hbm, ⟨11, _⟩ => ⟨S125x2x11264, .f32⟩
  | .hbm, ⟨12, _⟩ => ⟨S11264x2560, .fp8e4m3⟩
  | .hbm, ⟨13, _⟩ => ⟨S1x11264, .f32⟩
  | .hbm, ⟨14, _⟩ => ⟨S1x11264, .i32⟩
  | .hbm, ⟨15, _⟩ => ⟨S1x11264, .f32⟩
  | .hbm, ⟨16, _⟩ => ⟨S126, .i32⟩
  | .hbm, ⟨17, _⟩ => ⟨S_, .i32⟩
  | .hbm, ⟨18, _⟩ => ⟨S126, .i32⟩
  | .hbm, ⟨19, _⟩ => ⟨S126, .i32⟩
  | .hbm, ⟨20, _⟩ => ⟨S1x11264, .i32⟩
  | .hbm, ⟨21, _⟩ => ⟨S126x1, .i32⟩
  | .hbm, ⟨22, _⟩ => ⟨S126x11264, .i32⟩
  | .hbm, ⟨23, _⟩ => ⟨S126x11264, .i32⟩
  | .hbm, ⟨24, _⟩ => ⟨S126x11264, .i1⟩
  | .hbm, ⟨25, _⟩ => ⟨S126x11264, .i32⟩
  | .hbm, ⟨26, _⟩ => ⟨S_, .i32⟩
  | .hbm, ⟨27, _⟩ => ⟨S32000x2560, .f32⟩
  | .local _ .vmem, ⟨0, _⟩ => ⟨S2816x256, .fp8e5m2⟩
  | .local _ .vmem, ⟨1, _⟩ => ⟨S2816x256, .fp8e5m2⟩
  | .local _ .vmem, ⟨2, _⟩ => ⟨S1x2x2816, .f32⟩
  | .local _ .vmem, ⟨3, _⟩ => ⟨S1x2x2816, .f32⟩
  | .local _ .vmem, ⟨4, _⟩ => ⟨S1x2816, .f32⟩
  | .local _ .vmem, ⟨5, _⟩ => ⟨S1x2816, .f32⟩
  | .local _ .vmem, ⟨6, _⟩ => ⟨S11264x2560, .fp8e4m3⟩
  | .local _ .vmem, ⟨7, _⟩ => ⟨S1x11264, .i32⟩
  | .local _ .vmem, ⟨8, _⟩ => ⟨S1x11264, .f32⟩
  | .local _ .vmem, ⟨9, _⟩ => ⟨S256x2560, .f32⟩
  | .local _ .vmem, ⟨10, _⟩ => ⟨S256x2560, .f32⟩
  | .local _ .vmem, ⟨11, _⟩ => ⟨S256x2560, .f32⟩
  | .local _ .vmem, ⟨12, _⟩ => ⟨S256x2560, .f32⟩
  | .local _ .vmem, ⟨13, _⟩ => ⟨S256x2560, .fp8e5m2⟩
  | .local _ .smem, ⟨0, _⟩ => ⟨S126, .i32⟩
  | _, _ => ⟨S22x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_c_0 : Ref sig .tc := ⟨.hbm, 26, rfl⟩
abbrev main_v18 : Ref sig .tc := ⟨.hbm, 27, rfl⟩
abbrev main_v17 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨2, ![125, 4], ![false, false]⟩

abbrev pre0 : Pipeline.Prefetch sig := ⟨1, ![main_v17.idx], fun | 0 => main_v17.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 2 → Nat :=
  let arg1 : BitVec 32 := BitVec.ofNat 32 (i 1).val
  let c2816_i32 : BitVec 32 := 2816#32
  let v23 : BitVec 32 := Scalar.muli arg1 c2816_i32
  let v24 : Index := Scalar.indexCast v23
  let c0_10 : Index := 0#32
  ![v24.toNat, 0]
def k0_cond2 (i : grid0.Coords) : BitVec 1 :=
  let arg1 : BitVec 32 := BitVec.ofNat 32 (i 1).val
  let c3_i32 : BitVec 32 := 3#32
  let v35 : BitVec 1 := Scalar.cmpi .eq arg1 c3_i32
  let v36 : BitVec 32 := Scalar.extui v35
  let c0_i32_16 : BitVec 32 := 0#32
  let v37 : BitVec 1 := Scalar.cmpi .ne v36 c0_i32_16
  v37

def k0_off2 (i : grid0.Coords) : Fin 1 → Nat :=
  let arg0 : BitVec 32 := BitVec.ofNat 32 (i 0).val
  let v39 : Index := Scalar.indexCast arg0
  ![v39.toNat]
def k0_off3 (i : grid0.Coords) : Fin 1 → Nat :=
  let arg0 : BitVec 32 := BitVec.ofNat 32 (i 0).val
  let c1_i32 : BitVec 32 := 1#32
  let v41 : BitVec 32 := Scalar.addi arg0 c1_i32
  let v42 : Index := Scalar.indexCast v41
  ![v42.toNat]
@[reducible] def k0_t1_loop (v40 : BitVec 32) (v43 : BitVec 32) : Scf.Loop 32 :=
  let c0_i32_35 : BitVec 32 := 0#32
  let v62 : BitVec 1 := Scalar.cmpi .sgt v43 v40
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let v63 : BitVec 32 := Scalar.subi v43 v61
  let c256_i32_24 : BitVec 32 := 256#32
  let v64 : BitVec 32 := Scalar.addi v63 c256_i32_24
  let c1_i32_25 : BitVec 32 := 1#32
  let v65 : BitVec 32 := Scalar.subi v64 c1_i32_25
  let c0_i32_27 : BitVec 32 := 0#32
  let v67 : BitVec 1 := Scalar.cmpi .sgt v65 c0_i32_27
  let v68 : BitVec 32 := Scalar.extui v67
  let c0_i32_28 : BitVec 32 := 0#32
  let v69 : BitVec 1 := Scalar.cmpi .slt v65 c0_i32_28
  let v70 : BitVec 32 := Scalar.extui v69
  let v71 : BitVec 32 := Scalar.subi v68 v70
  let c256_i32_26 : BitVec 32 := 256#32
  let c0_i32_29 : BitVec 32 := 0#32
  let v72 : BitVec 1 := Scalar.cmpi .sgt c256_i32_26 c0_i32_29
  let v73 : BitVec 32 := Scalar.extui v72
  let c0_i32_30 : BitVec 32 := 0#32
  let v74 : BitVec 1 := Scalar.cmpi .slt c256_i32_26 c0_i32_30
  let v75 : BitVec 32 := Scalar.extui v74
  let v76 : BitVec 32 := Scalar.subi v73 v75
  let v77 : BitVec 1 := Scalar.cmpi .ne v71 v76
  let v78 : BitVec 32 := Scalar.remsi v65 c256_i32_26
  let c0_i32_31 : BitVec 32 := 0#32
  let v79 : BitVec 1 := Scalar.cmpi .ne v78 c0_i32_31
  let v80 : BitVec 1 := Scalar.andi v77 v79
  let v66 : BitVec 32 := Scalar.divsi v65 c256_i32_26
  let c1_i32_32 : BitVec 32 := 1#32
  let v81 : BitVec 32 := Scalar.subi v66 c1_i32_32
  let v82 : BitVec 32 := Scalar.select v80 v81 v66
  let c0_i32_33 : BitVec 32 := 0#32
  let v83 : BitVec 32 := Scalar.select v62 v82 c0_i32_33
  let v84 : BitVec 32 := Scalar.subi v83 c0_i32_35
  let c1_i32_36 : BitVec 32 := 1#32
  let v86 : BitVec 32 := Scalar.divsi v84 c1_i32_36
  let v87 : BitVec 32 := Scalar.muli v86 c1_i32_36
  let v88 : BitVec 32 := Scalar.addi c0_i32_35 v87
  let c1_i32_37 : BitVec 32 := 1#32
  ⟨c0_i32_35, v88, c1_i32_37⟩

def k0_mult1 (v40 : BitVec 32) (v43 : BitVec 32) (k0_t1 : Fin (k0_t1_loop v40 v43).trips) : BitVec 32 :=
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let c0_i32_35 : BitVec 32 := 0#32
  let c1_i32_37 : BitVec 32 := 1#32
  let arg14 : BitVec 32 := Scf.iv c0_i32_35 c1_i32_37 k0_t1
  let c256_i32_39 : BitVec 32 := 256#32
  let v89 : BitVec 32 := Scalar.muli arg14 c256_i32_39
  let v90 : BitVec 32 := Scalar.addi v61 v89
  let c11008_i32 : BitVec 32 := 11008#32
  let v91 : BitVec 32 := Scalar.minsi v90 c11008_i32
  v91
def k0_off4 (v40 : BitVec 32) (v43 : BitVec 32) (k0_t1 : Fin (k0_t1_loop v40 v43).trips) : Fin 2 → Nat :=
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let c0_i32_35 : BitVec 32 := 0#32
  let c1_i32_37 : BitVec 32 := 1#32
  let arg14 : BitVec 32 := Scf.iv c0_i32_35 c1_i32_37 k0_t1
  let c256_i32_39 : BitVec 32 := 256#32
  let v89 : BitVec 32 := Scalar.muli arg14 c256_i32_39
  let v90 : BitVec 32 := Scalar.addi v61 v89
  let c11008_i32 : BitVec 32 := 11008#32
  let v91 : BitVec 32 := Scalar.minsi v90 c11008_i32
  let v92 : BitVec 32 := v91
  let c0_i32_40 : BitVec 32 := 0#32
  ![v92.toNat, 0]
def k0_off5 (v40 : BitVec 32) (v43 : BitVec 32) (k0_t1 : Fin (k0_t1_loop v40 v43).trips) : Fin 2 → Nat :=
  let c0_42 : Index := 0#32
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let c0_i32_35 : BitVec 32 := 0#32
  let c1_i32_37 : BitVec 32 := 1#32
  let arg14 : BitVec 32 := Scf.iv c0_i32_35 c1_i32_37 k0_t1
  let c256_i32_39 : BitVec 32 := 256#32
  let v89 : BitVec 32 := Scalar.muli arg14 c256_i32_39
  let v90 : BitVec 32 := Scalar.addi v61 v89
  let c11008_i32 : BitVec 32 := 11008#32
  let v91 : BitVec 32 := Scalar.minsi v90 c11008_i32
  let v92 : BitVec 32 := v91
  let v95 : Index := Scalar.indexCast v92
  ![0, v95.toNat]
@[reducible] def k0_t2_loop (v40 : BitVec 32) (v43 : BitVec 32) : Scf.Loop 32 :=
  let c0_i32_35 : BitVec 32 := 0#32
  let v62 : BitVec 1 := Scalar.cmpi .sgt v43 v40
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let v63 : BitVec 32 := Scalar.subi v43 v61
  let c256_i32_24 : BitVec 32 := 256#32
  let v64 : BitVec 32 := Scalar.addi v63 c256_i32_24
  let c1_i32_25 : BitVec 32 := 1#32
  let v65 : BitVec 32 := Scalar.subi v64 c1_i32_25
  let c0_i32_27 : BitVec 32 := 0#32
  let v67 : BitVec 1 := Scalar.cmpi .sgt v65 c0_i32_27
  let v68 : BitVec 32 := Scalar.extui v67
  let c0_i32_28 : BitVec 32 := 0#32
  let v69 : BitVec 1 := Scalar.cmpi .slt v65 c0_i32_28
  let v70 : BitVec 32 := Scalar.extui v69
  let v71 : BitVec 32 := Scalar.subi v68 v70
  let c256_i32_26 : BitVec 32 := 256#32
  let c0_i32_29 : BitVec 32 := 0#32
  let v72 : BitVec 1 := Scalar.cmpi .sgt c256_i32_26 c0_i32_29
  let v73 : BitVec 32 := Scalar.extui v72
  let c0_i32_30 : BitVec 32 := 0#32
  let v74 : BitVec 1 := Scalar.cmpi .slt c256_i32_26 c0_i32_30
  let v75 : BitVec 32 := Scalar.extui v74
  let v76 : BitVec 32 := Scalar.subi v73 v75
  let v77 : BitVec 1 := Scalar.cmpi .ne v71 v76
  let v78 : BitVec 32 := Scalar.remsi v65 c256_i32_26
  let c0_i32_31 : BitVec 32 := 0#32
  let v79 : BitVec 1 := Scalar.cmpi .ne v78 c0_i32_31
  let v80 : BitVec 1 := Scalar.andi v77 v79
  let v66 : BitVec 32 := Scalar.divsi v65 c256_i32_26
  let c1_i32_32 : BitVec 32 := 1#32
  let v81 : BitVec 32 := Scalar.subi v66 c1_i32_32
  let v82 : BitVec 32 := Scalar.select v80 v81 v66
  let c0_i32_33 : BitVec 32 := 0#32
  let v83 : BitVec 32 := Scalar.select v62 v82 c0_i32_33
  let v84 : BitVec 32 := Scalar.subi v83 c0_i32_35
  let c1_i32_36 : BitVec 32 := 1#32
  let v86 : BitVec 32 := Scalar.divsi v84 c1_i32_36
  let v87 : BitVec 32 := Scalar.muli v86 c1_i32_36
  let v88 : BitVec 32 := Scalar.addi c0_i32_35 v87
  let v85 : BitVec 32 := Scalar.addi c0_i32_35 v84
  let c1_i32_38 : BitVec 32 := 1#32
  ⟨v88, v85, c1_i32_38⟩
def k0_mult2 (v40 : BitVec 32) (v43 : BitVec 32) (k0_t2 : Fin (k0_t2_loop v40 v43).trips) : BitVec 32 :=
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let c0_i32_35 : BitVec 32 := 0#32
  let v62 : BitVec 1 := Scalar.cmpi .sgt v43 v40
  let v63 : BitVec 32 := Scalar.subi v43 v61
  let c256_i32_24 : BitVec 32 := 256#32
  let v64 : BitVec 32 := Scalar.addi v63 c256_i32_24
  let c1_i32_25 : BitVec 32 := 1#32
  let v65 : BitVec 32 := Scalar.subi v64 c1_i32_25
  let c0_i32_27 : BitVec 32 := 0#32
  let v67 : BitVec 1 := Scalar.cmpi .sgt v65 c0_i32_27
  let v68 : BitVec 32 := Scalar.extui v67
  let c0_i32_28 : BitVec 32 := 0#32
  let v69 : BitVec 1 := Scalar.cmpi .slt v65 c0_i32_28
  let v70 : BitVec 32 := Scalar.extui v69
  let v71 : BitVec 32 := Scalar.subi v68 v70
  let c256_i32_26 : BitVec 32 := 256#32
  let c0_i32_29 : BitVec 32 := 0#32
  let v72 : BitVec 1 := Scalar.cmpi .sgt c256_i32_26 c0_i32_29
  let v73 : BitVec 32 := Scalar.extui v72
  let c0_i32_30 : BitVec 32 := 0#32
  let v74 : BitVec 1 := Scalar.cmpi .slt c256_i32_26 c0_i32_30
  let v75 : BitVec 32 := Scalar.extui v74
  let v76 : BitVec 32 := Scalar.subi v73 v75
  let v77 : BitVec 1 := Scalar.cmpi .ne v71 v76
  let v78 : BitVec 32 := Scalar.remsi v65 c256_i32_26
  let c0_i32_31 : BitVec 32 := 0#32
  let v79 : BitVec 1 := Scalar.cmpi .ne v78 c0_i32_31
  let v80 : BitVec 1 := Scalar.andi v77 v79
  let v66 : BitVec 32 := Scalar.divsi v65 c256_i32_26
  let c1_i32_32 : BitVec 32 := 1#32
  let v81 : BitVec 32 := Scalar.subi v66 c1_i32_32
  let v82 : BitVec 32 := Scalar.select v80 v81 v66
  let c0_i32_33 : BitVec 32 := 0#32
  let v83 : BitVec 32 := Scalar.select v62 v82 c0_i32_33
  let v84 : BitVec 32 := Scalar.subi v83 c0_i32_35
  let c1_i32_36 : BitVec 32 := 1#32
  let v86 : BitVec 32 := Scalar.divsi v84 c1_i32_36
  let v87 : BitVec 32 := Scalar.muli v86 c1_i32_36
  let v88 : BitVec 32 := Scalar.addi c0_i32_35 v87
  let c1_i32_38 : BitVec 32 := 1#32
  let arg14 : BitVec 32 := Scf.iv v88 c1_i32_38 k0_t2
  let c256_i32_39 : BitVec 32 := 256#32
  let v89 : BitVec 32 := Scalar.muli arg14 c256_i32_39
  let v90 : BitVec 32 := Scalar.addi v61 v89
  let c11008_i32 : BitVec 32 := 11008#32
  let v91 : BitVec 32 := Scalar.minsi v90 c11008_i32
  v91
def k0_off6 (v40 : BitVec 32) (v43 : BitVec 32) (k0_t2 : Fin (k0_t2_loop v40 v43).trips) : Fin 2 → Nat :=
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let c0_i32_35 : BitVec 32 := 0#32
  let v62 : BitVec 1 := Scalar.cmpi .sgt v43 v40
  let v63 : BitVec 32 := Scalar.subi v43 v61
  let c256_i32_24 : BitVec 32 := 256#32
  let v64 : BitVec 32 := Scalar.addi v63 c256_i32_24
  let c1_i32_25 : BitVec 32 := 1#32
  let v65 : BitVec 32 := Scalar.subi v64 c1_i32_25
  let c0_i32_27 : BitVec 32 := 0#32
  let v67 : BitVec 1 := Scalar.cmpi .sgt v65 c0_i32_27
  let v68 : BitVec 32 := Scalar.extui v67
  let c0_i32_28 : BitVec 32 := 0#32
  let v69 : BitVec 1 := Scalar.cmpi .slt v65 c0_i32_28
  let v70 : BitVec 32 := Scalar.extui v69
  let v71 : BitVec 32 := Scalar.subi v68 v70
  let c256_i32_26 : BitVec 32 := 256#32
  let c0_i32_29 : BitVec 32 := 0#32
  let v72 : BitVec 1 := Scalar.cmpi .sgt c256_i32_26 c0_i32_29
  let v73 : BitVec 32 := Scalar.extui v72
  let c0_i32_30 : BitVec 32 := 0#32
  let v74 : BitVec 1 := Scalar.cmpi .slt c256_i32_26 c0_i32_30
  let v75 : BitVec 32 := Scalar.extui v74
  let v76 : BitVec 32 := Scalar.subi v73 v75
  let v77 : BitVec 1 := Scalar.cmpi .ne v71 v76
  let v78 : BitVec 32 := Scalar.remsi v65 c256_i32_26
  let c0_i32_31 : BitVec 32 := 0#32
  let v79 : BitVec 1 := Scalar.cmpi .ne v78 c0_i32_31
  let v80 : BitVec 1 := Scalar.andi v77 v79
  let v66 : BitVec 32 := Scalar.divsi v65 c256_i32_26
  let c1_i32_32 : BitVec 32 := 1#32
  let v81 : BitVec 32 := Scalar.subi v66 c1_i32_32
  let v82 : BitVec 32 := Scalar.select v80 v81 v66
  let c0_i32_33 : BitVec 32 := 0#32
  let v83 : BitVec 32 := Scalar.select v62 v82 c0_i32_33
  let v84 : BitVec 32 := Scalar.subi v83 c0_i32_35
  let c1_i32_36 : BitVec 32 := 1#32
  let v86 : BitVec 32 := Scalar.divsi v84 c1_i32_36
  let v87 : BitVec 32 := Scalar.muli v86 c1_i32_36
  let v88 : BitVec 32 := Scalar.addi c0_i32_35 v87
  let c1_i32_38 : BitVec 32 := 1#32
  let arg14 : BitVec 32 := Scf.iv v88 c1_i32_38 k0_t2
  let c256_i32_39 : BitVec 32 := 256#32
  let v89 : BitVec 32 := Scalar.muli arg14 c256_i32_39
  let v90 : BitVec 32 := Scalar.addi v61 v89
  let c11008_i32 : BitVec 32 := 11008#32
  let v91 : BitVec 32 := Scalar.minsi v90 c11008_i32
  let v92 : BitVec 32 := v91
  let c0_i32_40 : BitVec 32 := 0#32
  ![v92.toNat, 0]
def k0_off7 (v40 : BitVec 32) (v43 : BitVec 32) (k0_t2 : Fin (k0_t2_loop v40 v43).trips) : Fin 2 → Nat :=
  let c0_42 : Index := 0#32
  let c0_i32_17 : BitVec 32 := 0#32
  let v45 : BitVec 1 := Scalar.cmpi .sgt v40 c0_i32_17
  let v46 : BitVec 32 := Scalar.extui v45
  let c0_i32_18 : BitVec 32 := 0#32
  let v47 : BitVec 1 := Scalar.cmpi .slt v40 c0_i32_18
  let v48 : BitVec 32 := Scalar.extui v47
  let v49 : BitVec 32 := Scalar.subi v46 v48
  let c128_i32 : BitVec 32 := 128#32
  let c0_i32_19 : BitVec 32 := 0#32
  let v50 : BitVec 1 := Scalar.cmpi .sgt c128_i32 c0_i32_19
  let v51 : BitVec 32 := Scalar.extui v50
  let c0_i32_20 : BitVec 32 := 0#32
  let v52 : BitVec 1 := Scalar.cmpi .slt c128_i32 c0_i32_20
  let v53 : BitVec 32 := Scalar.extui v52
  let v54 : BitVec 32 := Scalar.subi v51 v53
  let v55 : BitVec 1 := Scalar.cmpi .ne v49 v54
  let v56 : BitVec 32 := Scalar.remsi v40 c128_i32
  let c0_i32_21 : BitVec 32 := 0#32
  let v57 : BitVec 1 := Scalar.cmpi .ne v56 c0_i32_21
  let v58 : BitVec 1 := Scalar.andi v55 v57
  let v44 : BitVec 32 := Scalar.divsi v40 c128_i32
  let c1_i32_22 : BitVec 32 := 1#32
  let v59 : BitVec 32 := Scalar.subi v44 c1_i32_22
  let v60 : BitVec 32 := Scalar.select v58 v59 v44
  let c128_i32_23 : BitVec 32 := 128#32
  let v61 : BitVec 32 := Scalar.muli v60 c128_i32_23
  let c0_i32_35 : BitVec 32 := 0#32
  let v62 : BitVec 1 := Scalar.cmpi .sgt v43 v40
  let v63 : BitVec 32 := Scalar.subi v43 v61
  let c256_i32_24 : BitVec 32 := 256#32
  let v64 : BitVec 32 := Scalar.addi v63 c256_i32_24
  let c1_i32_25 : BitVec 32 := 1#32
  let v65 : BitVec 32 := Scalar.subi v64 c1_i32_25
  let c0_i32_27 : BitVec 32 := 0#32
  let v67 : BitVec 1 := Scalar.cmpi .sgt v65 c0_i32_27
  let v68 : BitVec 32 := Scalar.extui v67
  let c0_i32_28 : BitVec 32 := 0#32
  let v69 : BitVec 1 := Scalar.cmpi .slt v65 c0_i32_28
  let v70 : BitVec 32 := Scalar.extui v69
  let v71 : BitVec 32 := Scalar.subi v68 v70
  let c256_i32_26 : BitVec 32 := 256#32
  let c0_i32_29 : BitVec 32 := 0#32
  let v72 : BitVec 1 := Scalar.cmpi .sgt c256_i32_26 c0_i32_29
  let v73 : BitVec 32 := Scalar.extui v72
  let c0_i32_30 : BitVec 32 := 0#32
  let v74 : BitVec 1 := Scalar.cmpi .slt c256_i32_26 c0_i32_30
  let v75 : BitVec 32 := Scalar.extui v74
  let v76 : BitVec 32 := Scalar.subi v73 v75
  let v77 : BitVec 1 := Scalar.cmpi .ne v71 v76
  let v78 : BitVec 32 := Scalar.remsi v65 c256_i32_26
  let c0_i32_31 : BitVec 32 := 0#32
  let v79 : BitVec 1 := Scalar.cmpi .ne v78 c0_i32_31
  let v80 : BitVec 1 := Scalar.andi v77 v79
  let v66 : BitVec 32 := Scalar.divsi v65 c256_i32_26
  let c1_i32_32 : BitVec 32 := 1#32
  let v81 : BitVec 32 := Scalar.subi v66 c1_i32_32
  let v82 : BitVec 32 := Scalar.select v80 v81 v66
  let c0_i32_33 : BitVec 32 := 0#32
  let v83 : BitVec 32 := Scalar.select v62 v82 c0_i32_33
  let v84 : BitVec 32 := Scalar.subi v83 c0_i32_35
  let c1_i32_36 : BitVec 32 := 1#32
  let v86 : BitVec 32 := Scalar.divsi v84 c1_i32_36
  let v87 : BitVec 32 := Scalar.muli v86 c1_i32_36
  let v88 : BitVec 32 := Scalar.addi c0_i32_35 v87
  let c1_i32_38 : BitVec 32 := 1#32
  let arg14 : BitVec 32 := Scf.iv v88 c1_i32_38 k0_t2
  let c256_i32_39 : BitVec 32 := 256#32
  let v89 : BitVec 32 := Scalar.muli arg14 c256_i32_39
  let v90 : BitVec 32 := Scalar.addi v61 v89
  let c11008_i32 : BitVec 32 := 11008#32
  let v91 : BitVec 32 := Scalar.minsi v90 c11008_i32
  let v92 : BitVec 32 := v91
  let v95 : Index := Scalar.indexCast v92
  ![0, v95.toNat]

def k0_chk1 (i : grid0.Coords) (v40 : BitVec 32) (v43 : BitVec 32) : Prop :=
  (∀ (k0_h2 : k0_cond2 i = 1#1), (k0_t1_loop v40 v43).OK) ∧
  (∀ k0_t1 : Fin (k0_t1_loop v40 v43).trips, ∀ (k0_h2 : k0_cond2 i = 1#1), 128 ∣ (k0_mult1 v40 v43 k0_t1).toNat) ∧
  (∀ k0_t1 : Fin (k0_t1_loop v40 v43).trips, ∀ (k0_h2 : k0_cond2 i = 1#1), ∀ a, (k0_off4 v40 v43 k0_t1) a + S256x2560.size a ≤ S11264x2560.size a) ∧
  (∀ k0_t1 : Fin (k0_t1_loop v40 v43).trips, ∀ (k0_h2 : k0_cond2 i = 1#1), ∀ (hinb : ∀ a, (k0_off4 v40 v43 k0_t1) a + S256x2560.size a ≤ S11264x2560.size a), (Rect.unit (s := S11264x2560) (k0_off4 v40 v43 k0_t1) S256x2560.size hinb).WholeWords (EltTy.packing .fp8e5m2)) ∧
  (∀ k0_t1 : Fin (k0_t1_loop v40 v43).trips, ∀ (k0_h2 : k0_cond2 i = 1#1), ∀ a, (k0_off5 v40 v43 k0_t1) a + S1x256.size a ≤ S1x11264.size a) ∧
  (∀ (k0_h2 : k0_cond2 i = 1#1), (k0_t2_loop v40 v43).OK) ∧
  (∀ k0_t2 : Fin (k0_t2_loop v40 v43).trips, ∀ (k0_h2 : k0_cond2 i = 1#1), 128 ∣ (k0_mult2 v40 v43 k0_t2).toNat) ∧
  (∀ k0_t2 : Fin (k0_t2_loop v40 v43).trips, ∀ (k0_h2 : k0_cond2 i = 1#1), ∀ a, (k0_off6 v40 v43 k0_t2) a + S256x2560.size a ≤ S11264x2560.size a) ∧
  (∀ k0_t2 : Fin (k0_t2_loop v40 v43).trips, ∀ (k0_h2 : k0_cond2 i = 1#1), ∀ (hinb : ∀ a, (k0_off6 v40 v43 k0_t2) a + S256x2560.size a ≤ S11264x2560.size a), (Rect.unit (s := S11264x2560) (k0_off6 v40 v43 k0_t2) S256x2560.size hinb).WholeWords (EltTy.packing .fp8e5m2)) ∧
  (∀ k0_t2 : Fin (k0_t2_loop v40 v43).trips, ∀ (k0_h2 : k0_cond2 i = 1#1), ∀ a, (k0_off7 v40 v43 k0_t2) a + S1x256.size a ≤ S1x11264.size a)
theorem k0_t1_ok : ∀ (i : grid0.Coords) (v40 : BitVec 32) (v43 : BitVec 32) (k0_hw1 : k0_chk1 i v40 v43), ∀ (k0_h2 : k0_cond2 i = 1#1), (k0_t1_loop v40 v43).OK := fun i v40 v43 k0_hw1 k0_h2 => k0_hw1.1 k0_h2
theorem k0_mult1_dvd : ∀ (i : grid0.Coords) (v40 : BitVec 32) (v43 : BitVec 32) (k0_hw1 : k0_chk1 i v40 v43) (k0_t1 : Fin (k0_t1_loop v40 v43).trips), ∀ (k0_h2 : k0_cond2 i = 1#1), 128 ∣ (k0_mult1 v40 v43 k0_t1).toNat := fun i v40 v43 k0_hw1 k0_t1 k0_h2 => k0_hw1.2.1 k0_t1 k0_h2
theorem k0_off4_inb : ∀ (i : grid0.Coords) (v40 : BitVec 32) (v43 : BitVec 32) (k0_hw1 : k0_chk1 i v40 v43) (k0_t1 : Fin (k0_t1_loop v40 v43).trips), ∀ (k0_h2 : k0_cond2 i = 1#1), ∀ a, (k0_off4 v40 v43 k0_t1) a + S256x2560.size a ≤ S11264x2560.size a := fun i v40 v43 k0_hw1 k0_t1 k0_h2 => k0_hw1.2.2.1 k0_t1 k0_h2
theorem k0_off4_wordsfp8e5m2 : ∀ (i : grid0.Coords) (v40 : BitVec 32) (v43 : BitVec 32) (k0_hw1 : k0_chk1 i v40 v43) (k0_t1 : Fin (k0_t1_loop v40 v43).trips), ∀ (k0_h2 : k0_cond2 i = 1#1), (Rect.unit (s := S11264x2560) (k0_off4 v40 v43 k0_t1) S256x2560.size (k0_off4_inb i v40 v43 k0_hw1 k0_t1 k0_h2)).WholeWords (EltTy.packing .fp8e5m2) := fun i v40 v43 k0_hw1 k0_t1 k0_h2 => k0_hw1.2.2.2.1 k0_t1 k0_h2 (k0_off4_inb i v40 v43 k0_hw1 k0_t1 k0_h2)
theorem k0_off5_inb : ∀ (i : grid0.Coords) (v40 : BitVec 32) (v43 : BitVec 32) (k0_hw1 : k0_chk1 i v40 v43) (k0_t1 : Fin (k0_t1_loop v40 v43).trips), ∀ (k0_h2 : k0_cond2 i = 1#1), ∀ a, (k0_off5 v40 v43 k0_t1) a + S1x256.size a ≤ S1x11264.size a := fun i v40 v43 k0_hw1 k0_t1 k0_h2 => k0_hw1.2.2.2.2.1 k0_t1 k0_h2
theorem k0_t2_ok : ∀ (i : grid0.Coords) (v40 : BitVec 32) (v43 : BitVec 32) (k0_hw1 : k0_chk1 i v40 v43), ∀ (k0_h2 : k0_cond2 i = 1#1), (k0_t2_loop v40 v43).OK := fun i v40 v43 k0_hw1 k0_h2 => k0_hw1.2.2.2.2.2.1 k0_h2
theorem k0_mult2_dvd : ∀ (i : grid0.Coords) (v40 : BitVec 32) (v43 : BitVec 32) (k0_hw1 : k0_chk1 i v40 v43) (k0_t2 : Fin (k0_t2_loop v40 v43).trips), ∀ (k0_h2 : k0_cond2 i = 1#1), 128 ∣ (k0_mult2 v40 v43 k0_t2).toNat := fun i v40 v43 k0_hw1 k0_t2 k0_h2 => k0_hw1.2.2.2.2.2.2.1 k0_t2 k0_h2
theorem k0_off6_inb : ∀ (i : grid0.Coords) (v40 : BitVec 32) (v43 : BitVec 32) (k0_hw1 : k0_chk1 i v40 v43) (k0_t2 : Fin (k0_t2_loop v40 v43).trips), ∀ (k0_h2 : k0_cond2 i = 1#1), ∀ a, (k0_off6 v40 v43 k0_t2) a + S256x2560.size a ≤ S11264x2560.size a := fun i v40 v43 k0_hw1 k0_t2 k0_h2 => k0_hw1.2.2.2.2.2.2.2.1 k0_t2 k0_h2
theorem k0_off6_wordsfp8e5m2 : ∀ (i : grid0.Coords) (v40 : BitVec 32) (v43 : BitVec 32) (k0_hw1 : k0_chk1 i v40 v43) (k0_t2 : Fin (k0_t2_loop v40 v43).trips), ∀ (k0_h2 : k0_cond2 i = 1#1), (Rect.unit (s := S11264x2560) (k0_off6 v40 v43 k0_t2) S256x2560.size (k0_off6_inb i v40 v43 k0_hw1 k0_t2 k0_h2)).WholeWords (EltTy.packing .fp8e5m2) := fun i v40 v43 k0_hw1 k0_t2 k0_h2 => k0_hw1.2.2.2.2.2.2.2.2.1 k0_t2 k0_h2 (k0_off6_inb i v40 v43 k0_hw1 k0_t2 k0_h2)
theorem k0_off7_inb : ∀ (i : grid0.Coords) (v40 : BitVec 32) (v43 : BitVec 32) (k0_hw1 : k0_chk1 i v40 v43) (k0_t2 : Fin (k0_t2_loop v40 v43).trips), ∀ (k0_h2 : k0_cond2 i = 1#1), ∀ a, (k0_off7 v40 v43 k0_t2) a + S1x256.size a ≤ S1x11264.size a := fun i v40 v43 k0_hw1 k0_t2 k0_h2 => k0_hw1.2.2.2.2.2.2.2.2.2 k0_t2 k0_h2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S2816x256 .fp8e5m2 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x2x2816 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2816 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S11264x2560 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x11264 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x11264 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S256x2560 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S256x2560 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S22x512x32000 : Shape := ⟨3, ![22, 512, 32000]⟩
abbrev S22x512x250 : Shape := ⟨3, ![22, 512, 250]⟩
abbrev S22x512x2560 : Shape := ⟨3, ![22, 512, 2560]⟩
abbrev S22x512 : Shape := ⟨2, ![22, 512]⟩
abbrev S11264x2560 : Shape := ⟨2, ![11264, 2560]⟩
abbrev S11264 : Shape := ⟨1, ![11264]⟩
abbrev S32000x2560 : Shape := ⟨2, ![32000, 2560]⟩
abbrev S22x512x250x128 : Shape := ⟨4, ![22, 512, 250, 128]⟩
abbrev S22x512x250x1 : Shape := ⟨4, ![22, 512, 250, 1]⟩
abbrev S22x512x1 : Shape := ⟨3, ![22, 512, 1]⟩
abbrev S11264x1 : Shape := ⟨2, ![11264, 1]⟩
abbrev S_ : Shape := ⟨0, ![]⟩

abbrev nBuf : Space → Nat
  | .hbm => 31
  | .vmem => 6
  | .smem => 0
  | _ => 0

abbrev bufTy : (tb : Table) → Fin (tcTables nBuf tb) → BufTy
  | .hbm, ⟨0, _⟩ => ⟨S22x512x32000, .fp8e5m2⟩
  | .hbm, ⟨1, _⟩ => ⟨S22x512x250, .f32⟩
  | .hbm, ⟨2, _⟩ => ⟨S22x512x2560, .fp8e4m3⟩
  | .hbm, ⟨3, _⟩ => ⟨S22x512, .f32⟩
  | .hbm, ⟨4, _⟩ => ⟨S11264x2560, .fp8e5m2⟩
  | .hbm, ⟨5, _⟩ => ⟨S11264, .f32⟩
  | .hbm, ⟨6, _⟩ => ⟨S11264, .i32⟩
  | .hbm, ⟨7, _⟩ => ⟨S32000x2560, .f32⟩
  | .hbm, ⟨8, _⟩ => ⟨S22x512x32000, .bf16⟩
  | .hbm, ⟨9, _⟩ => ⟨S22x512x2560, .bf16⟩
  | .hbm, ⟨10, _⟩ => ⟨S11264x2560, .f32⟩
  | .hbm, ⟨11, _⟩ => ⟨S22x512x250x128, .bf16⟩
  | .hbm, ⟨12, _⟩ => ⟨S22x512x250, .bf16⟩
  | .hbm, ⟨13, _⟩ => ⟨S22x512x250x1, .bf16⟩
  | .hbm, ⟨14, _⟩ => ⟨S22x512x250x128, .bf16⟩
  | .hbm, ⟨15, _⟩ => ⟨S22x512x250x128, .bf16⟩
  | .hbm, ⟨16, _⟩ => ⟨S22x512x32000, .bf16⟩
  | .hbm, ⟨17, _⟩ => ⟨S22x512, .bf16⟩
  | .hbm, ⟨18, _⟩ => ⟨S22x512x1, .bf16⟩
  | .hbm, ⟨19, _⟩ => ⟨S22x512x2560, .bf16⟩
  | .hbm, ⟨20, _⟩ => ⟨S22x512x2560, .bf16⟩
  | .hbm, ⟨21, _⟩ => ⟨S32000x2560, .f32⟩
  | .hbm, ⟨22, _⟩ => ⟨S11264x1, .f32⟩
  | .hbm, ⟨23, _⟩ => ⟨S11264x2560, .f32⟩
  | .hbm, ⟨24, _⟩ => ⟨S11264x2560, .f32⟩
  | .hbm, ⟨25, _⟩ => ⟨S_, .f32⟩
  | .hbm, ⟨26, _⟩ => ⟨S32000x2560, .f32⟩
  | .hbm, ⟨27, _⟩ => ⟨S11264x1, .i32⟩
  | .hbm, ⟨28, _⟩ => ⟨S32000x2560, .f32⟩
  | .hbm, ⟨29, _⟩ => ⟨S32000x2560, .f32⟩
  | .hbm, ⟨30, _⟩ => ⟨S32000x2560, .f32⟩
  | .local _ .vmem, ⟨0, _⟩ => ⟨S22x512x32000, .fp8e5m2⟩
  | .local _ .vmem, ⟨1, _⟩ => ⟨S22x512x2560, .fp8e4m3⟩
  | .local _ .vmem, ⟨2, _⟩ => ⟨S11264x2560, .fp8e5m2⟩
  | .local _ .vmem, ⟨3, _⟩ => ⟨S22x512x32000, .bf16⟩
  | .local _ .vmem, ⟨4, _⟩ => ⟨S22x512x2560, .bf16⟩
  | .local _ .vmem, ⟨5, _⟩ => ⟨S11264x2560, .f32⟩
  | _, _ => ⟨S22x512x32000, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S22x512x32000 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S22x512x2560 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S11264x2560 .fp8e5m2 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S22x512x32000 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S22x512x2560 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S11264x2560 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.K.Loop.lean ====
/-
  The window loop of the kernel body. Before the last slab of a row block is finished, the body walks the windows of
  256 tokens that may hold an id of the block: each trip copies the window's rows of the encoded updates into the
  scratch, waits for them, and adds a product of the selection matrix with those rows to the output block.
-/
module

public import proofs.«01_k».proof.Proof.Gen.Kernel
public import proofs.«01_k».proof.Proof.Gen.Kernel.Skeleton
public import proofs.«01_k».proof.Proof.Gen.Kernel.Loops
public import Idealize.ShloMosaic.Lib.Tactic
public import Idealize.ShloMosaic.Lib.Pipeline.Kit
public import Idealize.ShloMosaic.Lib.WholeRead
public import Idealize.ShloMosaic.Lib.VecWindow
public import Idealize.ShloMosaic.Lib.Pipeline.ValueKit.Basic

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's staging cells, beside the counters of the body's own transfers. -/
abbrev UU (nD : Nat) (τ : Topo) : Type := UR sig nD τ × Counters

local notation "𝕄" => MT nD τ sig Unit (Elt F) ℕ (UU nD τ) ℕ

/-- The output block after `n` windows, from the block `acc` the loop starts at: window `k` adds the product of the
    selection matrix of the window's ids and scales with the window's rows of the encoded updates. -/
def winAcc (i : grid0.Coords) (v38 v40 v43 : BitVec 32) (hw : k0_chk1 i v40 v43) (h2 : k0_cond2 i = 1#1) (v61 : BitVec 32)
    (ids : Vec F S1x11264 .i32) (es : Vec F S1x11264 .f32) (e : Vec F S11264x2560 .fp8e5m2) (acc : Vec F S256x2560 .f32) :
    ℕ → Vec F S256x2560 .f32
  | 0 => acc
  | n + 1 =>
    if h : n < (k0_t1_loop v40 v43).trips then
      k0_pay1 (F := F) v38 v40 v43 v61 ⟨n, h⟩
        (View.ld ids (Rect.unit (s := S1x11264) (k0_off5 v40 v43 ⟨n, h⟩) S1x256.size (k0_off5_inb i v40 v43 hw ⟨n, h⟩ h2)))
        (View.ld es (Rect.unit (s := S1x11264) (k0_off5 v40 v43 ⟨n, h⟩) S1x256.size (k0_off5_inb i v40 v43 hw ⟨n, h⟩ h2)))
        (winAcc i v38 v40 v43 hw h2 v61 ids es e acc n)
        (View.ld e (Rect.unit (s := S11264x2560) (k0_off4 v40 v43 ⟨n, h⟩) S256x2560.size (k0_off4_inb i v40 v43 hw ⟨n, h⟩ h2)))
    else winAcc i v38 v40 v43 hw h2 v61 ids es e acc n

/-- Window `k`'s contribution over the first `k` windows'. -/
theorem winAcc_succ (i : grid0.Coords) (v38 v40 v43 : BitVec 32) (hw : k0_chk1 i v40 v43) (h2 : k0_cond2 i = 1#1) (v61 : BitVec 32)
    (ids : Vec F S1x11264 .i32) (es : Vec F S1x11264 .f32) (e : Vec F S11264x2560 .fp8e5m2) (acc : Vec F S256x2560 .f32)
    (k : Fin (k0_t1_loop v40 v43).trips) :
    winAcc i v38 v40 v43 hw h2 v61 ids es e acc (k.val + 1)
      = k0_pay1 (F := F) v38 v40 v43 v61 k
        (View.ld ids (Rect.unit (s := S1x11264) (k0_off5 v40 v43 k) S1x256.size (k0_off5_inb i v40 v43 hw k h2)))
        (View.ld es (Rect.unit (s := S1x11264) (k0_off5 v40 v43 k) S1x256.size (k0_off5_inb i v40 v43 hw k h2)))
        (winAcc i v38 v40 v43 hw h2 v61 ids es e acc k.val)
        (View.ld e (Rect.unit (s := S11264x2560) (k0_off4 v40 v43 k) S256x2560.size (k0_off4_inb i v40 v43 hw k h2))) :=
  dif_pos k.isLt

section Loop
variable (𝒱 : Variants) (c : Dev nD) (bd : Option 𝒱.V)
variable (i : grid0.Coords) (arg2 : Memref sig .tc .smem S126 .i32) (harg2 : arg2.IsWhole) (arg3 : Memref sig .tc .vmem S2816x256 .fp8e5m2) (harg3 : arg3.IsWhole) (arg4 : Memref sig .tc .vmem S1x2x2816 .f32) (harg4 : arg4.IsWhole) (arg5 : Memref sig .tc .vmem S1x2816 .f32) (harg5 : arg5.IsWhole) (arg6 : Memref sig .tc .vmem S11264x2560 .fp8e4m3) (harg6 : arg6.IsWhole) (arg7 : Memref sig .tc .vmem S1x11264 .i32) (harg7 : arg7.IsWhole) (arg8 : Memref sig .tc .vmem S1x11264 .f32) (harg8 : arg8.IsWhole) (arg9 : Memref sig .tc .hbm S11264x2560 .fp8e5m2) (harg9 : arg9.IsWhole) (arg10 : Memref sig .tc .vmem S256x2560 .f32) (harg10 : arg10.IsWhole) (arg11 : Memref sig .tc .vmem S256x2560 .f32) (harg11 : arg11.IsWhole) (arg12 : Memref sig .tc .vmem S256x2560 .fp8e5m2) (harg12 : arg12.IsWhole) (arg13 : DmaSems sig S_) (k0_h2 : k0_cond2 i = 1#1)
  (v38 : BitVec 32) (v40 v43 : Elt F .i32) (k0_hw1 : k0_chk1 i v40 v43) (v61 : BitVec 32)
  (ids : Vec F S1x11264 .i32) (es : Vec F S1x11264 .f32) (e : Vec F S11264x2560 .fp8e5m2)

/-- What the loop holds while the output block is `acc`. -/
abbrev LoopRes (acc : Vec F S256x2560 .f32) : sProp 𝕄 :=
  iprop((arg7.view.loc (c : Thread nD τ) ↦{fullShare} harg7.unread ids)
    ∗ (arg8.view.loc (c : Thread nD τ) ↦{fullShare} harg8.unread es)
    ∗ (arg9.view.loc (c : Thread nD τ) ↦{fullShare} harg9.unread e)
    ∗ (∃ f, (arg11.view.loc (c : Thread nD τ) ↦{fullShare} f) ∗ ⌜f = harg11.unread acc⌝)
    ∗ (semVal ((c : Thread nD τ), SemLoc.dma arg13.sem) 0)
    ∗ (∃ f, (arg12.view.loc (c : Thread nD τ) ↦{fullShare} f)) ∗ (∃ W, owes (c : Thread nD τ) 0 W))

/-- One trip: the output block takes the window's contribution, everything else is as before. -/
theorem trip (acc : Vec F S256x2560 .f32) (k : Fin (k0_t1_loop v40 v43).trips) :
    LoopRes (F := F) c arg7 harg7 arg8 harg8 arg9 harg9 arg11 harg11 arg12 arg13 ids es e acc
    ⊢ wp frame (wpE (defs₀ (F := F)) 𝒱 (c : Thread nD τ) bd) Set.univ
        (k0_t1_body (F := F) i arg2 harg2 arg3 harg3 arg4 harg4 arg5 harg5 arg6 harg6 arg7 harg7 arg8 harg8 arg9 harg9 arg10 harg10 arg11 harg11 arg12 harg12 arg13 k0_h2 v38 v40 v43 k0_hw1 v61 k PUnit.unit)
        (fun _ => LoopRes (F := F) c arg7 harg7 arg8 harg8 arg9 harg9 arg11 harg11 arg12 arg13 ids es e
          (k0_pay1 (F := F) v38 v40 v43 v61 k
            (View.ld ids (Rect.unit (s := S1x11264) (k0_off5 v40 v43 k) S1x256.size (k0_off5_inb i v40 v43 k0_hw1 k k0_h2)))
            (View.ld es (Rect.unit (s := S1x11264) (k0_off5 v40 v43 k) S1x256.size (k0_off5_inb i v40 v43 k0_hw1 k k0_h2)))
            acc
            (View.ld e (Rect.unit (s := S11264x2560) (k0_off4 v40 v43 k) S256x2560.size (k0_off4_inb i v40 v43 k0_hw1 k k0_h2))))) := by
  unfold k0_t1_body
  iintro ⟨H7, H8, H9, ⟨%f, H11, %hf⟩, Hs, ⟨%f12, H12⟩, ⟨%W, HO⟩⟩
  subst hf
  sl_exec
  sl_step
  isplitl [H7]; · iexact H7
  isplitl [H8]; · iexact H8
  isplitl [H9]; · iexact H9
  isplitl [H11]
  · iexists _; isplitl [H11]; · iexact H11
    ipureintro
    apply harg11.eq_unread
    rw [View.read_writes_full]
    unfold trip.sl.dma0
    simp only [View.readAt_eq_ld, View.read_write_univ, Memref.IsWhole.read_unread]
    rw [View.ld_unit_lit _ _ (by decide), View.ld_unit_lit _ _ (by decide)]
    congr 1
    funext x
    exact congrFun (harg9.read_unread e) _
  isplitl [Hs]; · iexact Hs
  isplitl [H12]; · iexists _; iexact H12
  iexists _; iexact HO

/-- The generated classes' instance for the loop: before trip `k` the output block is the sum of the first `k` windows'
    contributions over the block `acc` the loop starts at. -/
@[sl_loop, instance_reducible] def loopInv (acc : Vec F S256x2560 .f32) :
    LoopInvTy_k0_t1 (F := F) Unit ℕ (UU nD τ) ℕ 𝒱 c bd Set.univ i arg2 harg2 arg3 harg3 arg4 harg4 arg5 harg5 arg6 harg6 arg7 harg7 arg8 harg8 arg9 harg9 arg10 harg10 arg11 harg11 arg12 harg12 arg13 k0_h2 v38 v40 v43 k0_hw1 v61 where
  inv := fun k _ => LoopRes (F := F) c arg7 harg7 arg8 harg8 arg9 harg9 arg11 harg11 arg12 arg13 ids es e
    (winAcc i v38 v40 v43 k0_hw1 k0_h2 v61 ids es e acc k)
  step k _ := by
    rw [winAcc_succ]
    exact trip 𝒱 c bd i arg2 harg2 arg3 harg3 arg4 harg4 arg5 harg5 arg6 harg6 arg7 harg7 arg8 harg8 arg9 harg9 arg10 harg10 arg11 harg11 arg12 harg12 arg13 k0_h2 v38 v40 v43 k0_hw1 v61 ids es e _ k

end Loop

end Cert.Proof.K

end
-- ==== Proof.K.Body.lean ====
/-
  The kernel body at one grid point, over symbolic memrefs: what the output block holds when the body returns, and
  that everything the body only reads is as it was.
-/
module

public import proofs.«01_k».proof.Proof.K.Loop
public import Idealize.ShloMosaic.Lib.LoopRemainder

@[expose] public section

noncomputable section

namespace Cert.Proof.K

open Cert.Kernel Cert.Kernel.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The first slab of a row block: the body's first condition, as the program computes it. -/
abbrev cond1 (i : grid0.Coords) : BitVec 1 :=
  Scalar.cmpi .ne (Scalar.extui (Scalar.cmpi .eq (BitVec.ofNat 32 (i 1).val) 0#32)) 0#32

/-- The first window's starting token, as the program computes it: the word rounded down to a multiple of 128. -/
abbrev baseW (v40 : BitVec 32) : BitVec 32 :=
  Scalar.muli (Scalar.select (Scalar.andi (Scalar.cmpi .ne (Scalar.subi (Scalar.extui (Scalar.cmpi .sgt v40 0#32)) (Scalar.extui (Scalar.cmpi .slt v40 0#32))) (Scalar.subi (Scalar.extui (Scalar.cmpi .sgt 128#32 0#32)) (Scalar.extui (Scalar.cmpi .slt 128#32 0#32)))) (Scalar.cmpi .ne (Scalar.remsi v40 128#32) 0#32)) (Scalar.subi (Scalar.divsi v40 128#32) 1#32) (Scalar.divsi v40 128#32)) 128#32

/-- The row block's first token, read from the table. -/
abbrev loW (i : grid0.Coords) (h2 : k0_cond2 i = 1#1) (T : Vec F S126 .i32) : BitVec 32 :=
  View.ld T (Rect.unit (s := S126) (k0_off2 i) S1.size (k0_off2_inb i h2)) (Shape.Idx.first (numel1_S1.symm ▸ Nat.one_pos))
/-- The next row block's first token, read from the table. -/
abbrev hiW (i : grid0.Coords) (h2 : k0_cond2 i = 1#1) (T : Vec F S126 .i32) : BitVec 32 :=
  View.ld T (Rect.unit (s := S126) (k0_off3 i) S1.size (k0_off3_inb i h2)) (Shape.Idx.first (numel1_S1.symm ▸ Nat.one_pos))

/-- The output block after slab `i 1`'s product is added to the block `acc`. -/
def slab (i : grid0.Coords) (X3 : Vec F S2816x256 .fp8e5m2) (X4 : Vec F S1x2x2816 .f32) (X5 : Vec F S1x2816 .f32)
    (X6 : Vec F S11264x2560 .fp8e4m3) (acc : Vec F S256x2560 .f32) : Vec F S256x2560 .f32 :=
  k0_pay3 (F := F) X3 (View.ld X4 (Rect.unit (s := S1x2x2816) ![0, 0, 0] S1x1x2816.size inb_S1x2x2816_S1x1x2816_0_0_0)) X5
    (View.ld X4 (Rect.unit (s := S1x2x2816) ![0, 1, 0] S1x1x2816.size inb_S1x2x2816_S1x1x2816_0_1_0)) X5
    (View.ld X6 (Rect.unit (s := S11264x2560) (k0_off1 i) S2816x2560.size (k0_off1_inb i))) acc

/-- The output block after the last slab: the windows' contributions over `acc`. -/
def windows (i : grid0.Coords) (h2 : k0_cond2 i = 1#1) (T : Vec F S126 .i32)
    (hw : k0_chk1 i (loW i h2 T) (hiW i h2 T)) (ids : Vec F S1x11264 .i32) (es : Vec F S1x11264 .f32)
    (e : Vec F S11264x2560 .fp8e5m2) (acc : Vec F S256x2560 .f32) : Vec F S256x2560 .f32 :=
  winAcc i (Scalar.muli (BitVec.ofNat 32 (i 0).val) 256#32) (loW i h2 T) (hiW i h2 T) hw h2 (baseW (loW i h2 T)) ids es e acc
    (k0_t1_loop (loW i h2 T) (hiW i h2 T)).trips

section Body
variable (c : Dev nD)
variable (i : grid0.Coords) (arg2 : Memref sig .tc .smem S126 .i32) (harg2 : arg2.IsWhole) (arg3 : Memref sig .tc .vmem S2816x256 .fp8e5m2) (harg3 : arg3.IsWhole) (arg4 : Memref sig .tc .vmem S1x2x2816 .f32) (harg4 : arg4.IsWhole) (arg5 : Memref sig .tc .vmem S1x2816 .f32) (harg5 : arg5.IsWhole) (arg6 : Memref sig .tc .vmem S11264x2560 .fp8e4m3) (harg6 : arg6.IsWhole) (arg7 : Memref sig .tc .vmem S1x11264 .i32) (harg7 : arg7.IsWhole) (arg8 : Memref sig .tc .vmem S1x11264 .f32) (harg8 : arg8.IsWhole) (arg9 : Memref sig .tc .hbm S11264x2560 .fp8e5m2) (harg9 : arg9.IsWhole) (arg10 : Memref sig .tc .vmem S256x2560 .f32) (harg10 : arg10.IsWhole) (arg11 : Memref sig .tc .vmem S256x2560 .f32) (harg11 : arg11.IsWhole) (arg12 : Memref sig .tc .vmem S256x2560 .fp8e5m2) (harg12 : arg12.IsWhole) (arg13 : DmaSems sig S_)

/-- Memref `M` of core `c` held whole at the contents that read `X`. -/
abbrev holds {sp : Space} {S : Shape} {e : EltTy} (M : Memref sig .tc sp S e) (h : M.IsWhole) (X : Vec F S e) : sProp 𝕄 :=
  M.view.loc (c : Thread nD τ) ↦{fullShare} h.unread X

variable (T : Vec F S126 .i32) (X3 : Vec F S2816x256 .fp8e5m2) (X4 : Vec F S1x2x2816 .f32) (X5 : Vec F S1x2816 .f32)
  (X6 : Vec F S11264x2560 .fp8e4m3) (ids : Vec F S1x11264 .i32) (es : Vec F S1x11264 .f32)
  (e : Vec F S11264x2560 .fp8e5m2) (X10 : Vec F S256x2560 .f32)

/-- What the body holds while its output block is `acc`: the table, its blocks, the encoded updates, its semaphore at
    zero, and its scratch at some contents. -/
abbrev BodyRes (acc : Vec F S256x2560 .f32) : sProp 𝕄 :=
  iprop(holds c arg2 harg2 T ∗ holds c arg3 harg3 X3 ∗ holds c arg4 harg4 X4 ∗ holds c arg5 harg5 X5 ∗ holds c arg6 harg6 X6
    ∗ holds c arg7 harg7 ids ∗ holds c arg8 harg8 es ∗ holds c arg9 harg9 e ∗ holds c arg10 harg10 X10
    ∗ holds c arg11 harg11 acc ∗ (semVal ((c : Thread nD τ), SemLoc.dma arg13.sem) 0)
    ∗ (∃ f, arg12.view.loc (c : Thread nD τ) ↦{fullShare} f) ∗ (∃ W, owes (c : Thread nD τ) 0 W))

omit [FloatOps F] in
/-- Storing over the whole of a memref leaves the stored value. -/
theorem store_whole (b : arg11.view.ty.Contents (Elt F)) (w : Vec F S256x2560 .f32) (L : List (View.Piece (Elt F) S256x2560 .f32)) :
    arg11.view.writes (Elt F) b (⟨Rect.unit (s := S256x2560) ![0, 0] S256x2560.size inb_S256x2560_S256x2560_0_0, w⟩ :: L) = harg11.unread w :=
  harg11.eq_unread (View.read_writes_full ..)

/-- The stored sum, in the words the loads of whole memrefs give, is `slab`. -/
theorem slab_eq (acc' : Vec F S256x2560 .f32) (acc : Vec F S256x2560 .f32) (hacc : acc' = acc) :
    k0_pay3 (F := F)
            (View.readAt (Elt F) arg3.view (Rect.unit (s := S2816x256) ![0, 0] S2816x256.size inb_S2816x256_S2816x256_0_0).toLoadRect
              (harg3.unread X3))
            (View.readAt (Elt F) arg4.view
              (Rect.unit (s := S1x2x2816) ![0, 0, 0] S1x1x2816.size inb_S1x2x2816_S1x1x2816_0_0_0).toLoadRect (harg4.unread X4))
            (View.readAt (Elt F) arg5.view (Rect.unit (s := S1x2816) ![0, 0] S1x2816.size inb_S1x2816_S1x2816_0_0).toLoadRect
              (harg5.unread X5))
            (View.readAt (Elt F) arg4.view
              (Rect.unit (s := S1x2x2816) ![0, 1, 0] S1x1x2816.size inb_S1x2x2816_S1x1x2816_0_1_0).toLoadRect (harg4.unread X4))
            (View.readAt (Elt F) arg5.view (Rect.unit (s := S1x2816) ![0, 0] S1x2816.size inb_S1x2816_S1x2816_0_0).toLoadRect
              (harg5.unread X5))
            (View.readAt (Elt F) arg6.view (Rect.unit (s := S11264x2560) (k0_off1 i) S2816x2560.size (k0_off1_inb i)).toLoadRect (harg6.unread X6))
            acc' = slab i X3 X4 X5 X6 acc := by
  subst hacc
  unfold slab
  simp only [View.readAt_eq_ld, Memref.IsWhole.read_unread]
  rw [View.ld_unit_lit _ _ (by decide), View.ld_unit_lit _ _ (by decide)]

/-- A middle slab: its product is added to the block. -/
theorem body_mid (h1 : ¬cond1 i = 1#1) (h2 : ¬k0_cond2 i = 1#1) (acc : Vec F S256x2560 .f32) (Q : PUnit → sProp 𝕄) :
    iprop(BodyRes c arg2 harg2 arg3 harg3 arg4 harg4 arg5 harg5 arg6 harg6 arg7 harg7 arg8 harg8 arg9 harg9 arg10 harg10 arg11 harg11 arg12 arg13 T X3 X4 X5 X6 ids es e X10 acc
      ∗ (BodyRes c arg2 harg2 arg3 harg3 arg4 harg4 arg5 harg5 arg6 harg6 arg7 harg7 arg8 harg8 arg9 harg9 arg10 harg10 arg11 harg11 arg12 arg13 T X3 X4 X5 X6 ids es e X10
          (slab i X3 X4 X5 X6 acc) -∗ Q ⟨⟩))
    ⊢ wp frame (wpE (defs₀ (F := F)) Variants.none (c : Thread nD τ) none) Set.univ
        (cc0_dw (F := F) i arg2 harg2 arg3 harg3 arg4 harg4 arg5 harg5 arg6 harg6 arg7 harg7 arg8 harg8 arg9 harg9 arg10 harg10 arg11 harg11 arg12 harg12 arg13) Q := by
  iintro ⟨⟨H2, H3, H4, H5, H6, H7, H8, H9, H10, H11, Hs, ⟨%f12, H12⟩, ⟨%W, HO⟩⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · rw [store_whole, slab_eq i arg3 harg3 arg4 harg4 arg5 harg5 arg6 harg6 X3 X4 X5 X6 _ acc]
    · iexact H11
    · rw [View.readAt_eq_ld, Memref.IsWhole.read_unread, View.ld_unit_lit _ _ (by decide)]
  isplitl [Hs]; · iexact Hs
  isplitl [H12]; · iexists _; iexact H12
  iexists _; iexact HO

/-- The windows' recursion at words equal to the table's. -/
theorem windows_eq (h2 : k0_cond2 i = 1#1) (hw : k0_chk1 i (loW i h2 T) (hiW i h2 T)) {a b : BitVec 32}
    (ha : a = loW i h2 T) (hb : b = hiW i h2 T) (hw' : k0_chk1 i a b) (acc : Vec F S256x2560 .f32) :
    winAcc i (Scalar.muli (BitVec.ofNat 32 (i 0).val) 256#32) a b hw' h2 (baseW a) ids es e acc (k0_t1_loop a b).trips
      = windows i h2 T hw ids es e acc := by
  subst ha hb; rfl

/-- The first slab: the output block takes the launch contents, then the slab's product. -/
theorem body_first (h1 : cond1 i = 1#1) (h2 : ¬k0_cond2 i = 1#1) (acc : Vec F S256x2560 .f32) (Q : PUnit → sProp 𝕄) :
    iprop(BodyRes c arg2 harg2 arg3 harg3 arg4 harg4 arg5 harg5 arg6 harg6 arg7 harg7 arg8 harg8 arg9 harg9 arg10 harg10 arg11 harg11 arg12 arg13 T X3 X4 X5 X6 ids es e X10 acc
      ∗ (BodyRes c arg2 harg2 arg3 harg3 arg4 harg4 arg5 harg5 arg6 harg6 arg7 harg7 arg8 harg8 arg9 harg9 arg10 harg10 arg11 harg11 arg12 arg13 T X3 X4 X5 X6 ids es e X10
          (slab i X3 X4 X5 X6 X10) -∗ Q ⟨⟩))
    ⊢ wp frame (wpE (defs₀ (F := F)) Variants.none (c : Thread nD τ) none) Set.univ
        (cc0_dw (F := F) i arg2 harg2 arg3 harg3 arg4 harg4 arg5 harg5 arg6 harg6 arg7 harg7 arg8 harg8 arg9 harg9 arg10 harg10 arg11 harg11 arg12 harg12 arg13) Q := by
  iintro ⟨⟨H2, H3, H4, H5, H6, H7, H8, H9, H10, H11, Hs, ⟨%f12, H12⟩, ⟨%W, HO⟩⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · rw [store_whole, slab_eq i arg3 harg3 arg4 harg4 arg5 harg5 arg6 harg6 X3 X4 X5 X6 _ X10]
    · iexact H11
    · unfold body_first.sl.v31 body_first.sl.H11_1
      rw [View.readCov_unit_lit _ _ _ (by decide), View.readAt_eq_ld, Memref.IsWhole.read_unread, View.ld_unit_lit _ _ (by decide)]
  isplitl [Hs]; · iexact Hs
  isplitl [H12]; · iexists _; iexact H12
  iexists _; iexact HO

/-- The last slab: its product is added to the block, then the windows' contributions. -/
theorem body_last (h1 : ¬cond1 i = 1#1) (h2 : k0_cond2 i = 1#1) (hw : k0_chk1 i (loW i h2 T) (hiW i h2 T))
    (acc : Vec F S256x2560 .f32) (Q : PUnit → sProp 𝕄) :
    iprop(BodyRes c arg2 harg2 arg3 harg3 arg4 harg4 arg5 harg5 arg6 harg6 arg7 harg7 arg8 harg8 arg9 harg9 arg10 harg10 arg11 harg11 arg12 arg13 T X3 X4 X5 X6 ids es e X10 acc
      ∗ (BodyRes c arg2 harg2 arg3 harg3 arg4 harg4 arg5 harg5 arg6 harg6 arg7 harg7 arg8 harg8 arg9 harg9 arg10 harg10 arg11 harg11 arg12 arg13 T X3 X4 X5 X6 ids es e X10
          (windows i h2 T hw ids es e (slab i X3 X4 X5 X6 acc)) -∗ Q ⟨⟩))
    ⊢ wp frame (wpE (defs₀ (F := F)) Variants.none (c : Thread nD τ) none) Set.univ
        (cc0_dw (F := F) i arg2 harg2 arg3 harg3 arg4 harg4 arg5 harg5 arg6 harg6 arg7 harg7 arg8 harg8 arg9 harg9 arg10 harg10 arg11 harg11 arg12 harg12 arg13) Q := by
  have hlo (h2 : k0_cond2 i = 1#1) : (arg2.view.readAt (Elt F) (Rect.unit (s := S126) (k0_off2 i) S1.size (k0_off2_inb i h2)).toLoadRect (harg2.unread T) (Shape.Idx.first (numel1_S1.symm ▸ Nat.one_pos))) = loW i h2 T :=
    Memref.IsWhole.readAt_unread ..
  have hhi (h2 : k0_cond2 i = 1#1) : (arg2.view.readAt (Elt F) (Rect.unit (s := S126) (k0_off3 i) S1.size (k0_off3_inb i h2)).toLoadRect (harg2.unread T) (Shape.Idx.first (numel1_S1.symm ▸ Nat.one_pos))) = hiW i h2 T :=
    Memref.IsWhole.readAt_unread ..
  have hw' : k0_chk1 i (arg2.view.readAt (Elt F) (Rect.unit (s := S126) (k0_off2 i) S1.size (k0_off2_inb i h2)).toLoadRect (harg2.unread T) (Shape.Idx.first (numel1_S1.symm ▸ Nat.one_pos)))
      (arg2.view.readAt (Elt F) (Rect.unit (s := S126) (k0_off3 i) S1.size (k0_off3_inb i h2)).toLoadRect (harg2.unread T) (Shape.Idx.first (numel1_S1.symm ▸ Nat.one_pos))) := by
    rw [hlo, hhi]; exact hw
  iintro ⟨⟨H2, H3, H4, H5, H6, H7, H8, H9, H10, H11, Hs, ⟨%f12, H12⟩, ⟨%W, HO⟩⟩, Hk⟩
  sl_exec
  unfold body_last.sl.H11_1
  rw [store_whole arg11 harg11, slab_eq i arg3 harg3 arg4 harg4 arg5 harg5 arg6 harg6 X3 X4 X5 X6 _ acc
    (by rw [View.readAt_eq_ld, Memref.IsWhole.read_unread, View.ld_unit_lit _ _ (by decide)])]
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · rw [← windows_eq i T ids es e h2 hw (hlo h2) (hhi h2) hw' _]
    iexact H11
  isplitl [Hs]; · iexact Hs
  isplitl [H12]; · iexists _; iexact H12
  iexists _; iexact HO

end Body

end Cert.Proof.K

end
-- ==== Proof.K.Words.lean ====
/-
  The window loop's integer words, for a table whose two entries are `lo ≤ hi ≤ 11264`: the first window starts at
  `lo` rounded down to a multiple of 128, the windows step by 256 tokens, the last possible start is 11008, and the
  loop behind the window loop makes no trip. With these the program's side condition on the table holds.
-/
module

public import proofs.«01_k».proof.Proof.K.Body
public import Idealize.ShloMosaic.Lib.Affine
public import Idealize.ShloMosaic.Lib.WordArith

@[expose] public section

namespace Cert.Proof.K

open Cert.Kernel Cert.Kernel.Gen
open Idealize.ShloMosaic Idealize.ShloMosaic.Affine

/-- The first window's first token: `lo` rounded down to a multiple of 128. -/
def base (lo : ℕ) : ℕ := 128 * (lo / 128)
/-- The number of windows of the tokens `lo … hi - 1`. -/
def nWin (lo hi : ℕ) : ℕ := if lo < hi then (hi - base lo + 255) / 256 else 0
/-- Window `k`'s first token: 256 tokens a window from `base lo`, the window kept inside the 11264 tokens. -/
def start (lo k : ℕ) : ℕ := min (base lo + 256 * k) 11008

theorem base_le (lo : ℕ) : base lo ≤ lo := Nat.mul_div_le lo 128
theorem start_le (lo k : ℕ) : start lo k ≤ 11008 := Nat.min_le_right ..
theorem dvd_start (lo k : ℕ) : 128 ∣ start lo k := by
  unfold start base
  rcases Nat.le_total (128 * (lo / 128) + 256 * k) 11008 with h | h
  · rw [Nat.min_eq_left h]; omega
  · rw [Nat.min_eq_right h]; decide

/-- A literal below 2 ^ 31 reads itself. -/
theorem lit (n : ℕ) (h : n < 2 ^ 31 := by decide) : IsInt (BitVec.ofNat 32 n) (n : ℤ) := ofNat n ⟨rfl, h⟩

/-- Floor division as the program writes it out, with the correction for operands of unlike signs. -/
@[reducible] def floorW (x d : BitVec 32) : BitVec 32 :=
  Scalar.select (Scalar.andi (Scalar.cmpi .ne (Scalar.subi (Scalar.extui (Scalar.cmpi .sgt x 0#32)) (Scalar.extui (Scalar.cmpi .slt x 0#32))) (Scalar.subi (Scalar.extui (Scalar.cmpi .sgt d 0#32)) (Scalar.extui (Scalar.cmpi .slt d 0#32)))) (Scalar.cmpi .ne (Scalar.remsi x d) 0#32)) (Scalar.subi (Scalar.divsi x d) 1#32) (Scalar.divsi x d)

/-- It reads the quotient: the operands are not of unlike signs. -/
theorem floorW_isInt {x : BitVec 32} {n d : ℕ} (hx : IsInt x n) (hn : n < 2 ^ 31) (hd : 0 < d) (hd' : d < 2 ^ 31) :
    IsInt (floorW x (BitVec.ofNat 32 d)) ((n / d : ℕ) : ℤ) := by
  have hdi : IsInt (BitVec.ofNat 32 d) (d : ℤ) := lit d hd'
  have hq : (n : ℤ) / d = ((n / d : ℕ) : ℤ) := by push_cast; rfl
  have hle : n / d ≤ n := Nat.div_le_self ..
  have hdiv := Affine.divsi hx hdi (e := ((n / d : ℕ) : ℤ)) ⟨hq.symm, by omega, by omega⟩
  have hsub := Affine.subi hdiv (lit 1) (e := ((n / d : ℕ) : ℤ) - 1) ⟨rfl, by generalize n / d = q at *; omega, by generalize n / d = q at *; omega⟩
  refine select_fails ?_ hsub hdiv rfl
  have hsd : IsInt (Scalar.subi (Scalar.extui (Scalar.cmpi .sgt (BitVec.ofNat 32 d) 0#32)) (Scalar.extui (Scalar.cmpi .slt (BitVec.ofNat 32 d) 0#32))) 1 :=
    Affine.subi (extui_holds (sgt_holds hdi (lit 0) (by omega)) rfl) (extui_fails (slt_fails hdi (lit 0) (by omega)) rfl) (by decide)
  have hlt : Fails (Scalar.cmpi .slt x 0#32) := slt_fails hx (lit 0) (by omega)
  by_cases h0 : n = 0
  · have hrem : IsInt (Scalar.remsi x (BitVec.ofNat 32 d)) 0 := Affine.remsi hx hdi ⟨by subst h0; simp, by omega, by omega⟩
    exact andi_fails_right (cmpi_term _ (word _) (word _)) (ne_fails hrem (lit 0) rfl)
  · have h2 : IsInt (Scalar.subi (Scalar.extui (Scalar.cmpi .sgt x 0#32)) (Scalar.extui (Scalar.cmpi .slt x 0#32))) 1 :=
      Affine.subi (extui_holds (sgt_holds hx (lit 0) (by omega)) rfl) (extui_fails hlt rfl) (by decide)
    exact andi_fails_left (ne_fails h2 hsd rfl) (cmpi_term _ (word _) (word _))

section
variable {v40 v43 : BitVec 32} {lo hi : ℕ} (h40 : IsInt v40 lo) (h43 : IsInt v43 hi) (hle : lo ≤ hi) (hhi : hi ≤ 11264)
include h40 hle hhi

/-- The first window's word reads its first token. -/
theorem baseW_isInt : IsInt (baseW v40) (base lo) := by
  have hf := floorW_isInt (d := 128) h40 (by omega) (by decide) (by decide)
  have hb := base_le lo
  exact Affine.muli hf (lit 128) ⟨by unfold base; omega, by omega, by omega⟩

include h43

/-- The number of windows, as the program computes it. -/
@[reducible] def nWinW (v40 v43 : BitVec 32) : BitVec 32 :=
  Scalar.subi (Scalar.select (Scalar.cmpi .sgt v43 v40) (floorW (Scalar.subi (Scalar.addi (Scalar.subi v43 (baseW v40)) 256#32) 1#32) 256#32) 0#32) 0#32

/-- It reads the number of windows. -/
theorem nWinW_isInt : IsInt (nWinW v40 v43) (nWin lo hi) := by
  have hb := base_le lo
  have hw := baseW_isInt h40 hle hhi
  have h63 := Affine.subi h43 hw (e := ((hi - base lo : ℕ) : ℤ)) ⟨by omega, by omega, by omega⟩
  have h64 := Affine.addi h63 (lit 256) (e := ((hi - base lo + 256 : ℕ) : ℤ)) ⟨by push_cast; rfl, by omega, by omega⟩
  have h65 := Affine.subi h64 (lit 1) (e := ((hi - base lo + 255 : ℕ) : ℤ)) ⟨by omega, by omega, by omega⟩
  have h82 := floorW_isInt (d := 256) h65 (by omega) (by decide) (by decide)
  have hn : nWin lo hi ≤ 11519 := by unfold nWin; split <;> omega
  have h83 : IsInt (Scalar.select (Scalar.cmpi .sgt v43 v40) (floorW (Scalar.subi (Scalar.addi (Scalar.subi v43 (baseW v40)) 256#32) 1#32) 256#32) 0#32) (nWin lo hi) := by
    by_cases h : lo < hi
    · exact select_holds (sgt_holds h43 h40 (by omega)) h82 (lit 0) (by unfold nWin; rw [if_pos h])
    · exact select_fails (sgt_fails h43 h40 (by omega)) h82 (lit 0) (by unfold nWin; rw [if_neg h])
  exact Affine.subi h83 (lit 0) ⟨by simp, by omega, by omega⟩

theorem nWin_le : nWin lo hi ≤ 44 := by
  unfold nWin base; split <;> omega

/-- The window loop's upper bound reads the number of windows. -/
theorem ub_isInt : IsInt (k0_t1_loop v40 v43).ub (nWin lo hi) := by
  have hn := nWin_le h40 h43 hle hhi
  have h := nWinW_isInt h40 h43 hle hhi
  have hd := Affine.divsi_one h (lit 1) (e := (nWin lo hi : ℤ)) ⟨rfl, rfl⟩
  have hm := Affine.muli hd (lit 1) (e := (nWin lo hi : ℤ)) ⟨by simp, by omega, by omega⟩
  exact Affine.addi (lit 0) hm ⟨by simp, by omega, by omega⟩

/-- The window loop makes one trip a window. -/
theorem trips_windows : (k0_t1_loop v40 v43).trips = nWin lo hi :=
  trips_eq (lit 0) (ub_isInt h40 h43 hle hhi) (lit 1) _ ⟨by decide, by omega⟩

theorem windows_ok : (k0_t1_loop v40 v43).OK := by
  have hn := nWin_le h40 h43 hle hhi
  exact ok (lit 0) (ub_isInt h40 h43 hle hhi) (lit 1) ⟨by decide, by omega⟩

omit h40 h43 hle hhi in
/-- The loop behind the window loop starts where it ends. -/
theorem rest_lb_eq : (k0_t2_loop v40 v43).lb = (k0_t2_loop v40 v43).ub := by
  show Scalar.addi 0#32 (Scalar.muli (Scalar.divsi (nWinW v40 v43) 1#32) 1#32) = Scalar.addi 0#32 (nWinW v40 v43)
  simp only [Scalar.muli, Scalar.divsi, IntOp.muli, WordArith.divsi_one, BitVec.mul_one]

omit h40 h43 hle hhi in
theorem rest_trips : (k0_t2_loop v40 v43).trips = 0 := by
  show Scf.trips (k0_t2_loop v40 v43).lb (k0_t2_loop v40 v43).ub 1#32 = 0
  rw [rest_lb_eq]
  exact trips_eq (word _) (word _) (lit 1) 0 ⟨by decide, by omega⟩

omit h40 h43 hle hhi in
theorem rest_ok : (k0_t2_loop v40 v43).OK := by
  show Scf.OK (k0_t2_loop v40 v43).lb (k0_t2_loop v40 v43).ub 1#32
  rw [rest_lb_eq]
  have := word_range (k0_t2_loop v40 v43).ub
  exact ok (word _) (word _) (lit 1) ⟨by decide, by omega⟩

/-- Window `k`'s starting word reads its first token. -/
theorem start_isInt (k : Fin (k0_t1_loop v40 v43).trips) : IsInt (k0_mult1 v40 v43 k) (start lo k.val) := by
  have hk := k.isLt.trans_le ((trips_windows h40 h43 hle hhi).le.trans (nWin_le h40 h43 hle hhi))
  have hb := base_le lo
  have hi' := Affine.iv (lit 0) (lit 1) k.val (e := (k.val : ℤ)) ⟨by simp, by omega, by omega⟩
  have h89 := Affine.muli hi' (lit 256) (e := ((256 * k.val : ℕ) : ℤ)) ⟨by omega, by omega, by omega⟩
  have h90 := Affine.addi (baseW_isInt h40 hle hhi) h89 (e := ((base lo + 256 * k.val : ℕ) : ℤ)) ⟨by omega, by omega, by omega⟩
  exact Affine.minsi h90 (lit 11008) (by unfold start; omega)

/-- Window `k`'s rows of the encoded updates start at its first token; -/
theorem off4_eq (k : Fin (k0_t1_loop v40 v43).trips) : k0_off4 v40 v43 k = ![start lo k.val, 0] := by
  have h := nat_eq (start_isInt h40 h43 hle hhi k) _ rfl
  show ![(k0_mult1 v40 v43 k).toNat, 0] = _
  rw [h]

/-- and so do its ids and scales. -/
theorem off5_eq (k : Fin (k0_t1_loop v40 v43).trips) : k0_off5 v40 v43 k = ![0, start lo k.val] := by
  have h := nat_eq (start_isInt h40 h43 hle hhi k) _ rfl
  show ![0, (k0_mult1 v40 v43 k).toNat] = _
  rw [h]

/-- The program's side condition holds of the two words. -/
theorem chk_of (i : grid0.Coords) : k0_chk1 i v40 v43 := by
  have no (k : Fin (k0_t2_loop v40 v43).trips) : False := Nat.not_lt_zero k.val (lt_of_lt_of_eq k.isLt rest_trips)
  refine ⟨fun _ => windows_ok h40 h43 hle hhi, fun k _ => ?_, fun k _ a => ?_, fun k _ hinb => ?_, fun k _ a => ?_, fun _ => rest_ok,
    fun k => (no k).elim, fun k => (no k).elim, fun k => (no k).elim, fun k => (no k).elim⟩
  · rw [nat_eq (start_isInt h40 h43 hle hhi k) _ rfl]; exact dvd_start lo k.val
  · have := start_le lo k.val
    rw [off4_eq h40 h43 hle hhi k]
    fin_cases a
    · show start lo k.val + 256 ≤ 11264; omega
    · show 0 + 2560 ≤ 2560; omega
  · refine words_of_packed (packed_dvd (by decide) ?_ (by decide))
    rw [off4_eq h40 h43 hle hhi k]
    exact (show 4 ∣ 128 by decide).trans (dvd_start lo k.val)
  · have := start_le lo k.val
    rw [off5_eq h40 h43 hle hhi k]
    fin_cases a
    · show 0 + 1 ≤ 1; omega
    · show start lo k.val + 256 ≤ 11264; omega

end

end Cert.Proof.K
-- ==== Proof.K.Table.lean ====
/-
  The table of counts the host computes before the kernel runs: entry `j` is the number of tokens whose row number is
  below `256 * j`, as signed words. So the entries grow with `j` and none is above 11264, the number of tokens.
-/
module

public import proofs.«01_k».proof.Proof.K.Words
public import proofs.«01_k».proof.Proof.Gen.Kernel.Launch
public import Idealize.ShloMosaic.Lib.StableHlo.Predicate
public import Idealize.ShloMosaic.Lib.StableHlo.RunRead

@[expose] public section

namespace Cert.Proof.K

open Cert.Kernel Cert.Kernel.Gen
open Idealize.ShloMosaic Idealize.ShloMosaic.Affine Idealize.ShloMosaic.StableHlo.Predicate

/-- The number of tokens whose row number is below `256 * j`. -/
def count (ids : IVec S11264 32) (j : ℕ) : ℕ :=
  (Finset.univ.filter fun q : Fin 11264 => (ids (Shape.Idx.ofFin q)).toInt < 256 * (j : ℤ)).card

theorem count_le (ids : IVec S11264 32) (j : ℕ) : count ids j ≤ 11264 :=
  (Finset.card_le_univ _).trans_eq (Fintype.card_fin _)

theorem count_mono (ids : IVec S11264 32) {j k : ℕ} (h : j ≤ k) : count ids j ≤ count ids k :=
  Finset.card_le_card fun q hq => by
    simp only [Finset.mem_filter, Finset.mem_univ, true_and] at hq ⊢
    omega

/-- The table as the host operations write it out. -/
noncomputable def tableW (ids : IVec S11264 32) : IVec S126 32 :=
  Host.reduce IntOp.addi (extui 32 (cmpi .slt
    (broadcastInDim S126x11264 ![0, 1] bcast_S1x11264_S126x11264_0_1 (broadcastInDim S1x11264 ![1] bcast_S11264_S1x11264_1 ids))
    (broadcastInDim S126x11264 ![0, 1] bcast_S126x1_S126x11264_0_1 (broadcastInDim S126x1 ![0] bcast_S126_S126x1_0
      (muli (iotaInDim S126 32 0) (broadcastInDim S126 ![] bcast_S_S126 (constantI S_ 32 256#32)))))) natLt_1_32)
    (constantI S_ 32 0#32) reducesTo_S126x11264_S126_d1 h_S_

/-- The mask's bit of bound `p` and token `q` says whether the token's row number is below `256 * p`. -/
theorem mask_iff (ids : IVec S11264 32) (p : Fin 126) (q : Fin 11264) :
    cmpi .slt (broadcastInDim S126x11264 ![0, 1] bcast_S1x11264_S126x11264_0_1 (broadcastInDim S1x11264 ![1] bcast_S11264_S1x11264_1 ids))
      (broadcastInDim S126x11264 ![0, 1] bcast_S126x1_S126x11264_0_1 (broadcastInDim S126x1 ![0] bcast_S126_S126x1_0
        (muli (iotaInDim S126 32 0) (broadcastInDim S126 ![] bcast_S_S126 (constantI S_ 32 256#32))))) (ij p q) = 1#1
      ↔ (ids (Shape.Idx.ofFin q)).toInt < 256 * (p.val : ℤ) := by
  have hcmp (a b : IVec S126x11264 32) (k : S126x11264.Idx) : cmpi .slt a b k = IntOp.cmpi .slt (a k) (b k) := rfl
  have hmul (a b : IVec S126 32) (k : S126.Idx) : muli a b k = a k * b k := rfl
  have hw : broadcastInDim S126 ![] bcast_S_S126 (constantI S_ 32 256#32) (Shape.Idx.ofFin p) = 256#32 := rfl
  rw [hcmp, bcast_cols (n := 126) (m := 11264), bcast_rows (n := 126) (m := 11264)]
  rw [hmul, hw, iota_apply]
  have hj : p.val < 126 := p.isLt
  have h : (BitVec.ofNat 32 p.val * 256#32) = BitVec.ofNat 32 (256 * p.val) := by
    rw [show (256#32) = BitVec.ofNat 32 256 from rfl, ← BitVec.ofNat_mul, Nat.mul_comm]
  rw [h]
  unfold IntOp.cmpi
  rw [ofBool_eq_one_iff]
  simp only [BitVec.slt, toInt_ofNat_small _ (show 256 * p.val < 2 ^ 31 by omega), decide_eq_true_eq]
  push_cast
  rfl

/-- Entry `j` of the table is the count. -/
theorem tableW_toNat (ids : IVec S11264 32) (j : S126.Idx) : (tableW ids j).toNat = count ids (j 0).val := by
  unfold tableW
  rw [toNat_reduce_count_cols (n := 126) (m := 11264) (by omega)]
  unfold count
  exact congrArg Finset.card (Finset.filter_congr fun q _ => mask_iff ids (j 0) q)

/-- Read as an integer word. -/
theorem tableW_isInt (ids : IVec S11264 32) (j : S126.Idx) : IsInt (tableW ids j) (count ids (j 0).val : ℤ) := by
  have h := tableW_toNat ids j
  have hc := count_le ids (j 0).val
  rw [show tableW ids j = BitVec.ofNat 32 (count ids (j 0).val) from BitVec.eq_of_toNat_eq (by rw [h, BitVec.toNat_ofNat]; omega)]
  exact lit _ (by omega)

variable {F : FTy → Type} [FloatOps F]

/-- The array the kernel reads its table from holds that table when the kernel starts. -/
theorem table_eq (V₀ : Valuation τ sig (Elt F)) :
    StableHlo.after (hostOps0 (F := F)) V₀ (Proc.devRef .tc main_v17) = tableW (V₀ (Proc.devRef .tc main_arg6)) := by
  after_reads_simp
  rfl

end Cert.Proof.K
-- ==== Proof.K.Data.lean ====
/-
  What every buffer of the kernel holds at every grid point. Point `t` handles row block `t / 4` and token slab
  `t % 4`. The host's table is the counts of `Table.lean`; each input window holds its array's block; the output
  window's block starts from the launch contents at slab 0, takes one slab's product a point, and after slab 3 the
  windows' contributions. The body keeps to this at every point (`body_obligation`).
-/
module

public import proofs.«01_k».proof.Proof.K.Table
public import Idealize.ShloMosaic.Lib.Pipeline.Regions
public import Idealize.ShloMosaic.Lib.Pipeline.FrameBody

@[expose] public section

noncomputable section

namespace Cert.Proof.K

open Cert.Kernel Cert.Kernel.Gen

open Idealize.ShloMosaic Idealize.ShloMosaic.Affine
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

/-! ## The grid's points -/

theorem coord0 (t : Fin grid0.N) : (grid0.coords t 0).val = t.val / 4 % 125 :=
  Pipeline.Grid.coords_val t 0 (by decide) rfl
theorem coord1 (t : Fin grid0.N) : (grid0.coords t 1).val = t.val % 4 :=
  (Pipeline.Grid.coords_val t 1 (S := 1) (B := 4) (by decide) rfl).trans (by rw [Nat.div_one])

/-- The first condition holds at slab 0 alone, -/
theorem cond1_iff (i : grid0.Coords) : cond1 i = 1#1 ↔ (i 1).val = 0 :=
  (by decide : ∀ n : Fin 4, Scalar.cmpi .ne (Scalar.extui (Scalar.cmpi .eq (BitVec.ofNat 32 n.val) 0#32)) 0#32 = 1#1 ↔ n.val = 0) (i 1)
/-- the second at slab 3 alone. -/
theorem cond2_iff (i : grid0.Coords) : k0_cond2 i = 1#1 ↔ (i 1).val = 3 :=
  (by decide : ∀ n : Fin 4, Scalar.cmpi .ne (Scalar.extui (Scalar.cmpi .eq (BitVec.ofNat 32 n.val) 3#32)) 0#32 = 1#1 ↔ n.val = 3) (i 1)

theorem off2_eq (i : grid0.Coords) : k0_off2 i = ![(i 0).val] := by
  have h : (i 0).val < 125 := (i 0).isLt
  show ![(BitVec.ofNat 32 (i 0).val).toNat] = _
  rw [BitVec.toNat_ofNat, Nat.mod_eq_of_lt (by omega)]
theorem off3_eq (i : grid0.Coords) : k0_off3 i = ![(i 0).val + 1] := by
  have h : (i 0).val < 125 := (i 0).isLt
  show ![(BitVec.ofNat 32 (i 0).val + 1#32).toNat] = _
  rw [BitVec.toNat_add, BitVec.toNat_ofNat]
  show ![((i 0).val % 2 ^ 32 + 1) % 2 ^ 32] = _
  rw [Nat.mod_eq_of_lt (by omega), Nat.mod_eq_of_lt (by omega)]

/-! ## The table's two words of a row block -/

/-- One word of the table loaded at offset `n`. -/
theorem ld_table (ids : IVec S11264 32) (off : Fin 1 → ℕ) (hin : ∀ a, off a + S1.size a ≤ S126.size a) (n : ℕ) (hoff : off = ![n])
    (z : (Rect.unit (s := S126) off S1.size hin).shape.Idx) :
    IsInt (View.ld (Val := Elt F) (e' := .i32) (tableW ids) (Rect.unit (s := S126) off S1.size hin) z : BitVec 32) (count ids n : ℤ) := by
  have h := tableW_isInt ids ((Rect.unit (s := S126) off S1.size hin).emb z)
  have hz : (z 0).val < 1 := (z 0).isLt
  have he : ((Rect.unit (s := S126) off S1.size hin).emb z 0).val = n := by
    rw [Rect.emb_apply]
    subst hoff
    show n + 1 * (z 0).val = n
    omega
  rw [he] at h
  exact h

variable (ids : IVec S11264 32)

theorem loW_isInt (i : grid0.Coords) (h2 : k0_cond2 i = 1#1) : IsInt (loW (F := F) i h2 (tableW ids)) (count ids (i 0).val : ℤ) :=
  ld_table (F := F) ids _ _ _ (off2_eq i) _
theorem hiW_isInt (i : grid0.Coords) (h2 : k0_cond2 i = 1#1) : IsInt (hiW (F := F) i h2 (tableW ids)) (count ids ((i 0).val + 1) : ℤ) :=
  ld_table (F := F) ids _ _ _ (off3_eq i) _

/-- The program's side condition on the table holds at every row block. -/
theorem chk (i : grid0.Coords) (h2 : k0_cond2 i = 1#1) : k0_chk1 i (loW (F := F) i h2 (tableW ids)) (hiW (F := F) i h2 (tableW ids)) :=
  chk_of (loW_isInt ids i h2) (hiW_isInt ids i h2) (count_mono ids (Nat.le_succ _)) (count_le ids _) i

/-! ## The buffers when the kernel starts -/

variable (m : (ℓ : Loc nD τ sig) → Buf (Elt F) ℓ)

/-- Core `c`'s buffers at launch, -/
abbrev V₀ (c : Dev nD) : Valuation τ sig (Elt F) := fun b => m ((c : Dev nD), b)
/-- and when the kernel starts: the host operations have run. -/
abbrev V (c : Dev nD) (b : Ref sig .tc) : Buf (Elt F) ((c : Thread nD τ).loc b) := StableHlo.after hostOps0 (V₀ m c) b

/-- The tokens' row numbers. -/
abbrev idsOf (c : Dev nD) : IVec S11264 32 := m ((c : Thread nD τ).loc main_arg6)
/-- The encoded updates. -/
abbrev updOf (c : Dev nD) : Vec F S11264x2560 .fp8e5m2 := m ((c : Thread nD τ).loc main_arg4)

theorem V_table (c : Dev nD) : V m c main_v17 = tableW (idsOf m c) := table_eq (V₀ m c)

/-- The contents the kernel's table is read at. -/
def adm (_ : Fin 1) : (pcfg0 (F := F)).Adm := ⟨fun k => V m 0 (pre0.ref k), trivial⟩

/-- The kernel's pipeline at that table. -/
abbrev cfgA : Cfg sig Λ₀ := cfg0 (adm m 0)

/-- Window `w`'s block at point `t`, read off its array. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- What the output block holds after point `t`, from what it held before. -/
def stepAt (c : Dev nD) (t : Fin (cfgA m).N) (prev : Vec F S256x2560 .f32) : Vec F S256x2560 .f32 :=
  if cond1 (grid0.coords t) = 1#1 then slab (grid0.coords t) (iblk m c 0 t) (iblk m c 1 t) (iblk m c 2 t) (iblk m c 3 t) (iblk m c 6 t)
  else if h2 : k0_cond2 (grid0.coords t) = 1#1 then
    windows (grid0.coords t) h2 (tableW (idsOf m c)) (chk (idsOf m c) (grid0.coords t) h2) (iblk m c 4 t) (iblk m c 5 t) (updOf m c)
      (slab (grid0.coords t) (iblk m c 0 t) (iblk m c 1 t) (iblk m c 2 t) (iblk m c 3 t) prev)
  else slab (grid0.coords t) (iblk m c 0 t) (iblk m c 1 t) (iblk m c 2 t) (iblk m c 3 t) prev

/-- The output block after point `n`. -/
def accAt (c : Dev nD) : (n : ℕ) → n < (cfgA m).N → Vec F S256x2560 .f32
  | 0, h => stepAt m c ⟨0, h⟩ (iblk m c 6 ⟨0, h⟩)
  | n + 1, h => stepAt m c ⟨n + 1, h⟩ (accAt c n (Nat.lt_of_succ_lt h))

/-- At slab 0 what the block held before does not matter. -/
theorem stepAt_first (c : Dev nD) (t : Fin (cfgA m).N) (h : t.val % 4 = 0) (d d' : Vec F S256x2560 .f32) :
    stepAt m c t d = stepAt m c t d' := by
  unfold stepAt
  have h1 : cond1 (grid0.coords t) = 1#1 := (cond1_iff _).mpr ((coord1 t).trans h)
  rw [if_pos h1, if_pos h1]

theorem accAt_first (c : Dev nD) (t : Fin (cfgA m).N) (h : t.val % 4 = 0) (d : Vec F S256x2560 .f32) :
    accAt m c t.val t.isLt = stepAt m c t d := by
  obtain ⟨_ | n, ht⟩ := t
  · exact stepAt_first m c ⟨0, ht⟩ h _ _
  · exact stepAt_first m c ⟨n + 1, ht⟩ h _ _

theorem accAt_next (c : Dev nD) (t : Fin (cfgA m).N) (h : t.val ≠ 0) :
    accAt m c t.val t.isLt = stepAt m c t (accAt m c (t.val - 1) (Nat.lt_of_le_of_lt (Nat.sub_le _ _) t.isLt)) := by
  obtain ⟨_ | n, ht⟩ := t
  · exact absurd rfl h
  · rfl

/-- The kernel's own semaphore. -/
def osem (_ : Fin 1) : SemLoc sig := SemLoc.dma cc0_scratch1.sem

/-- What the body keeps between points beside the windows: the table, the encoded updates, its semaphore at zero, and
    its scratch at some contents. -/
def Φc (c : Dev nD) : sProp 𝕄 :=
  iprop(holds c (Memref.whole main_v17) (Memref.isWhole_whole _) (tableW (idsOf m c) : Vec F S126 .i32)
    ∗ holds c (Memref.whole main_arg4) (Memref.isWhole_whole _) (updOf m c)
    ∗ (semVal ((c : Thread nD τ), SemLoc.dma cc0_scratch1.sem) 0)
    ∗ (∃ f, (Memref.whole cc0_scratch0).view.loc (c : Thread nD τ) ↦{fullShare} f))

/-- The pipeline's proof data on core `c`. -/
def dats (_ : Fin 1) (c : Dev nD) : Dat τ (Elt F) Unit ℕ (UU nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ _ := Φc m c
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = iblk m c 4 t := by dsimp only [dats]; rfl
theorem after5 (c : Dev nD) (t : Fin (cfgA m).N) : (dats m 0 c).after 5 t = iblk m c 5 t := by dsimp only [dats]; rfl
theorem after6 (c : Dev nD) (t : Fin (cfgA m).N) : (dats m 0 c).after 6 t = iblk m c 6 t := by dsimp only [dats]; rfl
theorem after7 (c : Dev nD) (t : Fin (cfgA m).N) : (dats m 0 c).after 7 t = accAt m c t.val t.isLt := by dsimp only [dats]; rfl

/-- Each input window's buffer holds its block when the body runs. -/
theorem before0 (c : Dev nD) (t : Fin (cfgA m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgA m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgA m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin (cfgA m).N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-- The output block is written back at slab 3 alone. -/
theorem flush7 (t : Fin (cfgA m).N) : ((cfgA m).win 7).flush t = true ↔ t.val % 4 = 3 :=
  Window.flush_reads ((cfgA m).win 7) rfl (0 : Fin 2) (show 1 < grid0.bound 0 from by decide)
    (show grid0.fixedAfter spec0_7.reads 0 = true from by decide) (fun i i' h => by
      have h0 : (i 0).val < 125 := (i 0).isLt
      have h0' : (i' 0).val < 125 := (i' 0).isLt
      have e : (BitVec.ofNat 32 (i 0).val).toNat = (BitVec.ofNat 32 (i' 0).val).toNat := congrFun h (0 : Fin 2)
      rw [BitVec.toNat_ofNat, BitVec.toNat_ofNat, Nat.mod_eq_of_lt (by omega), Nat.mod_eq_of_lt (by omega)] at e
      exact Fin.ext e) (P := 4) (m := 3) (show grid0.stride 0 = 4 from by decide) rfl t

/-- The body's step over whatever the output buffer holds before it is what the proof data says it holds after. -/
theorem step_before (c : Dev nD) (t : Fin (cfgA m).N) (d) :
    stepAt m c t ((dats m 0 c).before 7 t d) = accAt m c t.val t.isLt := by
  by_cases h : t.val % 4 = 0
  · exact (accAt_first m c t h _).symm
  · have h0 : t.val ≠ 0 := fun e => h (by rw [e])
    rw [(dats m 0 c).before_out_kept 7 rfl t h0
      (by rw [← Bool.not_eq_true]; intro hf; have := (flush7 m _).mp hf; dsimp only at this; omega) (fun _ => rfl) (fun _ _ => rfl) d,
      after7, accAt_next m c t h0]

/-! ## The body at a point -/

omit [FloatOps F] in
/-- A whole memref owned at contents is its buffer held at them. -/
theorem owns_holds (c : Dev nD) {sp : Space} {S : Shape} {e : EltTy} (M : Memref sig .tc sp S e) (h : M.IsWhole) (X : Vec F S e) :
    (owns (c : Thread nD τ) M fullShare X : sProp 𝕄) ⊣⊢ holds c M h X := by
  unfold owns holds
  rw [h.set_eq_univ]
  constructor
  · iintro ⟨%f, %hf, H⟩
    rw [h.eq_unread hf]
    iexact H
  · iintro H
    iexists _; isplitr; swap; (· iexact H); ipureintro; exact h.read_unread X

section Point
variable (c : Dev nD) (t : Fin grid0.N)
variable (arg3 : Memref sig .tc .vmem S2816x256 .fp8e5m2) (harg3 : arg3.IsWhole) (arg4 : Memref sig .tc .vmem S1x2x2816 .f32) (harg4 : arg4.IsWhole)
  (arg5 : Memref sig .tc .vmem S1x2816 .f32) (harg5 : arg5.IsWhole) (arg6 : Memref sig .tc .vmem S11264x2560 .fp8e4m3) (harg6 : arg6.IsWhole)
  (arg7 : Memref sig .tc .vmem S1x11264 .i32) (harg7 : arg7.IsWhole) (arg8 : Memref sig .tc .vmem S1x11264 .f32) (harg8 : arg8.IsWhole)
  (arg10 : Memref sig .tc .vmem S256x2560 .f32) (harg10 : arg10.IsWhole) (arg11 : Memref sig .tc .vmem S256x2560 .f32) (harg11 : arg11.IsWhole)

/-- What the body holds at point `t` while its output block is `acc`. -/
abbrev PointRes (acc : Vec F S256x2560 .f32) : sProp 𝕄 :=
  BodyRes c (Memref.whole main_v17) (Memref.isWhole_whole _) arg3 harg3 arg4 harg4 arg5 harg5 arg6 harg6 arg7 harg7 arg8 harg8
    (Memref.whole main_arg4) (Memref.isWhole_whole _) arg10 harg10 arg11 harg11 (Memref.whole cc0_scratch0) cc0_scratch1
    (tableW (idsOf m c)) (iblk m c 0 t) (iblk m c 1 t) (iblk m c 2 t) (iblk m c 3 t) (iblk m c 4 t) (iblk m c 5 t) (updOf m c) (iblk m c 6 t) acc

/-- The body takes the output block one step. -/
theorem sound_step (acc : Vec F S256x2560 .f32) (Q : PUnit → sProp 𝕄) :
    iprop(PointRes m c t arg3 harg3 arg4 harg4 arg5 harg5 arg6 harg6 arg7 harg7 arg8 harg8 arg10 harg10 arg11 harg11 acc
      ∗ (PointRes m c t arg3 harg3 arg4 harg4 arg5 harg5 arg6 harg6 arg7 harg7 arg8 harg8 arg10 harg10 arg11 harg11 (stepAt m c t acc) -∗ Q ⟨⟩))
    ⊢ wp frame (wpE (defs₀ (F := F)) Variants.none (c : Thread nD τ) none) Set.univ
        (cc0_dw (F := F) (grid0.coords t) (Memref.whole main_v17) (Memref.isWhole_whole _) arg3 harg3 arg4 harg4 arg5 harg5 arg6 harg6 arg7 harg7 arg8 harg8 (Memref.whole main_arg4) (Memref.isWhole_whole _) arg10 harg10 arg11 harg11 (Memref.whole cc0_scratch0) (Memref.isWhole_whole _) cc0_scratch1) Q := by
  by_cases h1 : cond1 (grid0.coords t) = 1#1
  · have h2 : ¬k0_cond2 (grid0.coords t) = 1#1 := fun h => by
      have := (cond1_iff _).mp h1; have := (cond2_iff _).mp h; omega
    have e : stepAt m c t acc = slab (grid0.coords t) (iblk m c 0 t) (iblk m c 1 t) (iblk m c 2 t) (iblk m c 3 t) (iblk m c 6 t) := by
      unfold stepAt; rw [if_pos h1]
    rw [e]
    exact body_first c (grid0.coords t) _ _ _ _ _ _ _ _ _ _ _ _ _ _ _ _ _ _ _ _ _ _ _ _ _ _ _ _ _ _ _ _ h1 h2 acc Q
  · by_cases h2 : k0_cond2 (grid0.coords t) = 1#1
    · have e : stepAt m c t acc = windows (grid0.coords t) h2 (tableW (idsOf m c)) (chk (idsOf m c) (grid0.coords t) h2) (iblk m c 4 t) (iblk m c 5 t) (updOf m c)
          (slab (grid0.coords t) (iblk m c 0 t) (iblk m c 1 t) (iblk m c 2 t) (iblk m c 3 t) acc) := by
        unfold stepAt; rw [if_neg h1, dif_pos h2]
      rw [e]
      exact body_last c (grid0.coords t) _ _ _ _ _ _ _ _ _ _ _ _ _ _ _ _ _ _ _ _ _ _ _ _ _ _ _ _ _ _ _ _ h1 h2 _ acc Q
    · have e : stepAt m c t acc = slab (grid0.coords t) (iblk m c 0 t) (iblk m c 1 t) (iblk m c 2 t) (iblk m c 3 t) acc := by
        unfold stepAt; rw [if_neg h1, dif_neg h2]
      rw [e]
      exact body_mid c (grid0.coords t) _ _ _ _ _ _ _ _ _ _ _ _ _ _ _ _ _ _ _ _ _ _ _ _ _ _ _ _ _ _ _ _ h1 h2 acc Q

end Point

/-- The call's body at point `t`. -/
theorem defs₀_row (t : Fin (cfgA m).N) : defs₀ (F := F) .tc (cfgA m).body ((cfgA m).bodyArgs t ((cfgA m).slots t))
    = cc0_dw (grid0.coords t) (Memref.whole main_v17) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) cc0_scratch1 := by
  unfold defs₀; rw [Defs.onTc_tc]

/-- The body at point `t`, from the windows' buffers before it to the windows' buffers after it. -/
theorem sound_body (c : Dev nD) (t : Fin (cfgA m).N) :
    iprop(Φc m c ∗ (dats m 0 c).owesAt () t.castSucc
      ∗ (∃ d, owns (c : Thread nD τ) (spec0_0.stage ((cfgA m).slots t 0)) fullShare ((dats m 0 c).before 0 t d)) ∗ (∃ d, owns (c : Thread nD τ) (spec0_1.stage ((cfgA m).slots t 1)) fullShare ((dats m 0 c).before 1 t d)) ∗ (∃ d, owns (c : Thread nD τ) (spec0_2.stage ((cfgA m).slots t 2)) fullShare ((dats m 0 c).before 2 t d)) ∗ (∃ d, owns (c : Thread nD τ) (spec0_3.stage ((cfgA m).slots t 3)) fullShare ((dats m 0 c).before 3 t d)) ∗ (∃ d, owns (c : Thread nD τ) (spec0_4.stage ((cfgA m).slots t 4)) fullShare ((dats m 0 c).before 4 t d)) ∗ (∃ d, owns (c : Thread nD τ) (spec0_5.stage ((cfgA m).slots t 5)) fullShare ((dats m 0 c).before 5 t d)) ∗ (∃ d, owns (c : Thread nD τ) (spec0_6.stage ((cfgA m).slots t 6)) fullShare ((dats m 0 c).before 6 t d)) ∗ (∃ d, owns (c : Thread nD τ) (spec0_7.stage ((cfgA m).slots t 7)) fullShare ((dats m 0 c).before 7 t d)))
    ⊢ wp frame (wpE (defs₀ (F := F)) Variants.none (c : Thread nD τ) none) Set.univ
      (cc0_dw (grid0.coords t) (Memref.whole main_v17) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) cc0_scratch1) fun _ =>
      iprop(Φc m c ∗ (dats m 0 c).owesAt () t.succ
        ∗ owns (c : Thread nD τ) (spec0_0.stage ((cfgA m).slots t 0)) fullShare ((dats m 0 c).after 0 t) ∗ owns (c : Thread nD τ) (spec0_1.stage ((cfgA m).slots t 1)) fullShare ((dats m 0 c).after 1 t) ∗ owns (c : Thread nD τ) (spec0_2.stage ((cfgA m).slots t 2)) fullShare ((dats m 0 c).after 2 t) ∗ owns (c : Thread nD τ) (spec0_3.stage ((cfgA m).slots t 3)) fullShare ((dats m 0 c).after 3 t) ∗ owns (c : Thread nD τ) (spec0_4.stage ((cfgA m).slots t 4)) fullShare ((dats m 0 c).after 4 t) ∗ owns (c : Thread nD τ) (spec0_5.stage ((cfgA m).slots t 5)) fullShare ((dats m 0 c).after 5 t) ∗ owns (c : Thread nD τ) (spec0_6.stage ((cfgA m).slots t 6)) fullShare ((dats m 0 c).after 6 t) ∗ owns (c : Thread nD τ) (spec0_7.stage ((cfgA m).slots t 7)) fullShare ((dats m 0 c).after 7 t)) := by
  unfold Dat.owesAt Pipeline.owesWithin
  rw [show (dats m 0 c).owed t.castSucc = 0 from rfl, show (dats m 0 c).owed t.succ = 0 from rfl]
  simp only [before0, before1, before2, before3, before4, before5, before6]
  rw [after0, after1, after2, after3, after4, after5, after6, after7]
  unfold Φc
  iintro ⟨⟨HT, He, Hs, Hf⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave H0 := ((owns_holds c (spec0_0.stage ((cfgA m).slots t 0)) (hstage0_0 (((cfgA m).slots t 0).cast nbuf0_0)) (iblk m c 0 t)).mp) $$ H0
  ihave H1 := ((owns_holds c (spec0_1.stage ((cfgA m).slots t 1)) (hstage0_1 (((cfgA m).slots t 1).cast nbuf0_1)) (iblk m c 1 t)).mp) $$ H1
  ihave H2 := ((owns_holds c (spec0_2.stage ((cfgA m).slots t 2)) (hstage0_2 (((cfgA m).slots t 2).cast nbuf0_2)) (iblk m c 2 t)).mp) $$ H2
  ihave H3 := ((owns_holds c (spec0_3.stage ((cfgA m).slots t 3)) (hstage0_3 (((cfgA m).slots t 3).cast nbuf0_3)) (iblk m c 3 t)).mp) $$ H3
  ihave H4 := ((owns_holds c (spec0_4.stage ((cfgA m).slots t 4)) (hstage0_4 (((cfgA m).slots t 4).cast nbuf0_4)) (iblk m c 4 t)).mp) $$ H4
  ihave H5 := ((owns_holds c (spec0_5.stage ((cfgA m).slots t 5)) (hstage0_5 (((cfgA m).slots t 5).cast nbuf0_5)) (iblk m c 5 t)).mp) $$ H5
  ihave H6 := ((owns_holds c (spec0_6.stage ((cfgA m).slots t 6)) (hstage0_6 (((cfgA m).slots t 6).cast nbuf0_6)) (iblk m c 6 t)).mp) $$ H6
  ihave H7 := ((owns_holds c (spec0_7.stage ((cfgA m).slots t 7)) (hstage0_7 (((cfgA m).slots t 7).cast nbuf0_7)) ((dats m 0 c).before 7 t d7)).mp) $$ H7
  iapply (sound_step m c t (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) ((dats m 0 c).before 7 t d7) _)
  isplitl [HT He Hs Hf HO H0 H1 H2 H3 H4 H5 H6 H7]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [He]; · iexact He
    isplitl [H6]; · iexact H6
    isplitl [H7]; · iexact H7
    isplitl [Hs]; · iexact Hs
    isplitl [Hf]; · iexact Hf
    iexists W; iexact HO
  rw [step_before]
  iintro ⟨HT, H0, H1, H2, H3, H4, H5, He, H6, H7, Hs, Hf, ⟨%W', HO⟩⟩
  isplitl [HT He Hs Hf]
  · isplitl [HT]; · iexact HT
    isplitl [He]; · iexact He
    isplitl [Hs]; · iexact Hs
    iexact Hf
  isplitl [HO]
  · iexists W'; isplitr; · ipureintro; exact fun _ _ => Or.inl trivial
    iexact HO
  isplitl [H0]; · iapply ((owns_holds c (spec0_0.stage ((cfgA m).slots t 0)) (hstage0_0 (((cfgA m).slots t 0).cast nbuf0_0)) _).mpr); iexact H0
  isplitl [H1]; · iapply ((owns_holds c (spec0_1.stage ((cfgA m).slots t 1)) (hstage0_1 (((cfgA m).slots t 1).cast nbuf0_1)) _).mpr); iexact H1
  isplitl [H2]; · iapply ((owns_holds c (spec0_2.stage ((cfgA m).slots t 2)) (hstage0_2 (((cfgA m).slots t 2).cast nbuf0_2)) _).mpr); iexact H2
  isplitl [H3]; · iapply ((owns_holds c (spec0_3.stage ((cfgA m).slots t 3)) (hstage0_3 (((cfgA m).slots t 3).cast nbuf0_3)) _).mpr); iexact H3
  isplitl [H4]; · iapply ((owns_holds c (spec0_4.stage ((cfgA m).slots t 4)) (hstage0_4 (((cfgA m).slots t 4).cast nbuf0_4)) _).mpr); iexact H4
  isplitl [H5]; · iapply ((owns_holds c (spec0_5.stage ((cfgA m).slots t 5)) (hstage0_5 (((cfgA m).slots t 5).cast nbuf0_5)) _).mpr); iexact H5
  isplitl [H6]; · iapply ((owns_holds c (spec0_6.stage ((cfgA m).slots t 6)) (hstage0_6 (((cfgA m).slots t 6).cast nbuf0_6)) _).mpr); iexact H6
  iapply ((owns_holds c (spec0_7.stage ((cfgA m).slots t 7)) (hstage0_7 (((cfgA m).slots t 7).cast nbuf0_7)) _).mpr); iexact H7

/-- The body keeps to the proof data at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

end Cert.Proof.K

end
-- ==== Proof.K.Run.lean ====
/-
  The kernel's run, for any float values: every weakly fair execution terminates, and every final state has each
  window's array at what the pipeline computes from the proof data of `Data.lean`, the arguments as launched, and every
  semaphore counter at zero.
-/
module

public import proofs.«01_k».proof.Proof.K.Data
public import proofs.«01_k».proof.Proof.Gen.Kernel.Launch
public import Idealize.ShloMosaic.Lib.Pipeline.Regions

@[expose] public section

noncomputable section

namespace Cert.Proof.K

open Cert.Kernel Cert.Kernel.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## The host operations -/

/-- No host operation writes an argument. -/
theorem V_arg (b : Ref sig .tc) (hb : b ∈ [main_arg0, main_arg1, main_arg2, main_arg3, main_arg4, main_arg5, main_arg6, main_arg7]) (c : Dev nD) :
    V m c b = m ((c : Thread nD τ).loc b) :=
  StableHlo.after_of_forall_not_mem (b := Proc.devRef .tc b) hostOps0 (V₀ m c) (by
    intro op hop
    have hne : ∀ r ∈ [main_v0, main_v1, main_v2, main_v3, main_v4, main_v5, main_v6, main_v7, main_v8, main_c, main_v9, main_v10, main_v11, main_v12, main_v13, main_v14, main_v15, main_v16, main_c_0, main_v17], b ≠ r := by
      revert b; decide
    simp only [List.mem_cons, List.mem_nil_iff, or_false] at hop
    rcases hop with rfl | rfl | rfl | rfl | rfl | rfl | rfl | rfl | rfl | rfl | rfl | rfl | rfl | rfl | rfl | rfl | rfl | rfl | rfl | rfl <;>
      simp only [StableHlo.reshape_writes, StableHlo.unary_writes, StableHlo.binary_writes, StableHlo.nullary_writes, Finset.mem_singleton] <;>
      exact StableHlo.devRef_ne_of_ne (hne _ (by decide)))

/-- The TensorCore's unscoped references, as device buffers: the set the host operations run within. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- An operation on TensorCore references only touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The launch -/

/-- The layout the launch needs of the kernel's own semaphore: scoped, and no staging semaphore. -/
theorem ownSemFacts : Pipeline.OwnSemFacts spec0 osem := by decide

/-- The launch element: the pipeline library's at the staging cells and the pipeline's transfers. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

omit [FloatOps F] in
/-- The kernel's own cell at zero. -/
theorem ownSems0_eq (c : Dev nD) :
    (Pipeline.ownSems0 (Ix := Unit) (Name := ℕ) (U := UU nD τ) (Lvl := ℕ) (Val := Elt F) (τ := τ) osem c : sProp 𝕄)
      = semVal ((c : Thread nD τ), SemLoc.dma cc0_scratch1.sem) 0 :=
  Pipeline.ownSems0_eq_of_list c osem [0] (by decide) (by decide)

/-- A window's array after the run, as the pipeline computes it. -/
def finalA (c : Dev nD) (w : Fin (cfgA m).W) : Buf (Elt F) (((cfgA m).win w).arr.view.loc (c : Thread nD τ)) :=
  (dats m 0 c).arrAt w (cfgA m).N

/-- The arguments that no window stages, as launched. -/
def argsHeld (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg5) ↦{fullShare} m ((c : Thread nD τ).loc main_arg5))
    ∗ (((c : Thread nD τ).loc main_arg6) ↦{fullShare} m ((c : Thread nD τ).loc main_arg6)))

/-- What the run leaves on core `c`. -/
def QC (c : Dev nD) (s : MemSt nD τ sig (Elt F)) : Prop :=
  (∀ w : Fin (cfgA m).W, s.mem (((cfgA m).win w).arr.view.loc (c : Thread nD τ)) = finalA m c w)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- No core owes another anything: no level is assigned. -/
abbrev L : GSem nD τ sig → Finset Unit := fun _ => ∅
abbrev lv : GSem nD τ sig → Unit → ℕ := fun _ _ => 0
abbrev 𝒱₀ : Variants := Variants.none

/-- What rides beside the buffers through the host operations: the core's `owes`. -/
abbrev R (c : Dev nD) : sProp 𝕄 := iprop(∃ W, owes (c : Thread nD τ) (0 : CellTallies nD τ sig Unit) W)

/-- The host segment: the operations over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- The encoded updates' buffer as launched. -/
abbrev updHeld (c : Dev nD) : sProp 𝕄 := holds c (Memref.whole main_arg4) (Memref.isWhole_whole _) (updOf m c)

/-- What the region leaves for the end. -/
abbrev Tₙ (c : Dev nD) : sProp 𝕄 :=
  iprop((dats m 0 c).arrays ((dats m 0 c).arrAt · (cfgA m).N) ∗ updHeld m c ∗ argsHeld m c)

omit [FloatOps F] in
/-- A whole buffer read as itself is held as itself. -/
theorem holds_whole (c : Dev nD) (b : Ref sig .tc) (f : b.ty.Contents (Elt F)) :
    (holds c (Memref.whole b) (Memref.isWhole_whole b) f : sProp 𝕄) = iprop(((c : Thread nD τ).loc b) ↦{fullShare} f) := by
  unfold holds
  rw [← (Memref.isWhole_whole b).eq_unread (View.read_whole b f)]

omit [FloatOps F] in
/-- The one table, held at contents `v`. -/
theorem prefHeld_one (c : Dev nD) (v : pre0.Contents (Elt F)) :
    (Pipeline.prefHeld pre0 c (fun _ => fullShare) v : sProp 𝕄)
      = iprop(((c : Thread nD τ).loc main_v17) ↦{fullShare} (show Buf (Elt F) ((c : Thread nD τ).loc main_v17) from v 0)) := by
  unfold Pipeline.prefHeld
  rw [show (Finset.univ : Finset (Fin 1)) = {0} from by decide, bigSep_singleton]
  rfl

/-- The kernel's table at its contents. -/
theorem prefHeld_table (c : Dev nD) :
    (Pipeline.prefHeld pre0 c (fun _ => fullShare) (adm m 0).1 : sProp 𝕄)
      = holds c (Memref.whole main_v17) (Memref.isWhole_whole _) (tableW (idsOf m c) : Vec F S126 .i32) := by
  obtain rfl : c = 0 := Subsingleton.elim _ _
  rw [prefHeld_one, holds_whole 0 main_v17]
  dsimp only [adm]
  exact congrArg (fun f : Buf (Elt F) (((0 : Dev nD) : Thread nD τ).loc main_v17) => (iprop((((0 : Dev nD) : Thread nD τ).loc main_v17) ↦{fullShare} f) : sProp 𝕄)) (V_table m 0)

-- `iapply` of a launch lemma stated over the pinned configuration unifies only when unification may unfold plain
-- definitions in a metavariable's type
set_option backward.isDefEq.respectTransparency.types false in
/-- The region: entered from what the host operations leave, left with the windows' arrays at their final contents and
    every argument as launched. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 1
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(updHeld m c ∗ semVal ((c : Thread nD τ), SemLoc.dma cc0_scratch1.sem) 0)
  Y c := updHeld m c
  Z c := argsHeld m c
  hentry c := by
    rw [show StableHlo.held (c : Thread nD τ) ucRefs (StableHlo.after hostOps0 (V₀ m c)) = unscopedBufs c (V m c) from (unscopedBufs_held c _).symm,
      ownSems0_eq]
    have hsplit := (Pipeline.arrays_of_unscopedBufs (pcfgs (F := F)) (adm m) (dats m) (launch0 (F := F)).win (launch0 (F := F)).arr_whole c
      ((dats m 0 c).share_full fun _ => rfl) (V m c) (A_eq m c)).trans (sep_mono .rfl (Entails.of_eq
        (Pipeline.unscopedRest_split preFacts0 c (V m c))))
    rw [unscopedRestP0_eq] at hsplit
    have hpre : (Pipeline.prefHeld pre0 c (fun _ => fullShare) (fun k => V m c (pre0.ref k)) : sProp 𝕄)
        = Pipeline.prefHeld pre0 c (fun _ => fullShare) (adm m 0).1 := by
      obtain rfl : c = 0 := Subsingleton.elim _ _
      rfl
    rw [hpre, V_arg m main_arg0 (by decide), V_arg m main_arg1 (by decide), V_arg m main_arg2 (by decide), V_arg m main_arg3 (by decide),
      V_arg m main_arg4 (by decide), V_arg m main_arg5 (by decide), V_arg m main_arg6 (by decide)] at hsplit
    have h4 := Entails.of_eq (holds_whole (F := F) c main_arg4 (updOf m c)).symm
    iintro ⟨⟨Hub, HO⟩, Hos, -⟩
    ihave H := hsplit $$ Hub
    icases H with ⟨Ha, Hp, H0, H1, H2, H3, H4, H5, H6, -⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H4 Hos]
    · isplitl [H4]; · iapply h4; iexact H4
      iexact Hos
    unfold argsHeld
    isplitl [H0]; · iexact H0
    isplitl [H1]; · iexact H1
    isplitl [H2]; · iexact H2
    isplitl [H3]; · iexact H3
    isplitl [H5]; · iexact H5
    iexact H6
  hin c := by
    rw [show (dats m 0 c).Φ 0 = Φc m c from rfl, scopedRest0_eq]; unfold Φc
    have hp := Entails.of_eq (prefHeld_table m c)
    iintro ⟨⟨H4, Hos⟩, Hp, Hr⟩
    ihave Hp := hp $$ Hp
    isplitl [Hp]; · iexact Hp
    isplitl [H4]; · iexact H4
    isplitl [Hos]; · iexact Hos
    iexact Hr
  hout c := by
    rw [ownSems0_eq (F := F), show (dats m 0 c).Φ (Fin.last (cfgA m).N) = Φc m c from rfl, scopedRest0_eq]; unfold Φc
    iintro ⟨-, H4, Hos, Hr⟩
    isplitl [H4]; · iexact H4
    isplitl [Hos]; · iexact Hos
    iexact Hr
  hexit c := by
    iintro ⟨Ha, HO, HY, HZ⟩
    imodintro
    isplitr [HO]
    · isplitl [Ha]; · iexact Ha
      isplitl [HY]; · iexact HY
      iexact HZ
    · unfold Pipeline.Dat.owesAt Pipeline.owesWithin
      icases HO with ⟨%W, -, HO⟩; iexists W; iexact HO

/-- The program as the list of the two. -/
abbrev segs : List (Pipeline.Seg (pcfgs (F := F)) (adm m) (dats m) () defs₀ 𝒱₀ L lv) := [.host (seg0 m), .region (reg0 m)]

-- the theorem's implicit arguments are found by unifying its conclusion with this one, which takes unfolding plain
-- definitions in a metavariable's type
set_option backward.isDefEq.respectTransparency.types false in
/-- From any memory with zero counters every weakly fair execution terminates, and every final state has the windows'
    arrays at the computed contents, the other arguments unchanged and every counter at zero. -/
theorem run_main : θ_run defs (onTc (τ := τ) (main (F := F))) ⟨m, fun _ => 0, ρ⟩ (fun r => (∀ c, QC m c r.2) ∧ r.2.sem = fun _ => 0) :=
  Pipeline.θ_run_regions_kit_sems (pcfgs (F := F)) (adm m) (dats m) () (cellOf_inj (adm m)) EP defs₀ 𝒱₀ L lv m ρ main (segs m)
    (fun c Q => by rw [main_segs (adm m) (dats m) () 𝒱₀ L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      dsimp only [Tₙ]; unfold argsHeld updHeld
      rw [holds_whole c main_arg4]
      iintro ⟨⟨Ha, H4, H0, H1, H2, H3, H5, H6⟩, HSI⟩
      icombine HSI H0 gives %h0
      icombine HSI H1 gives %h1
      icombine HSI H2 gives %h2
      icombine HSI H3 gives %h3
      icombine HSI H4 gives %h4
      icombine HSI H5 gives %h5
      icombine HSI H6 gives %h6
      ihave Hr := (Pipeline.arrays_read (pcfgs (F := F)) (adm m) (dats m) (launch0 (F := F)).arr_whole c ((dats m 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun _ h hz => ⟨h, funext fun g => hz g (.inr (by revert g; decide))⟩)

/-- The accumulated input ends as launched: its window is an input. -/
theorem finalA_arg7 (c : Dev nD) : finalA m c 6 = m ((c : Thread nD τ).loc main_arg7) :=
  ((dats m 0 c).arrAt_in 6 rfl _).trans ((A_eq m c 6).trans (V_arg m main_arg7 (by decide) c))

/-- The frame, with the result's contents: the arguments end unchanged, the counters at zero, and the result is what
    the pipeline computes for its output window. -/
theorem run_frame : θ_run defs (onTc (τ := τ) (main (F := F))) ⟨m, fun _ => 0, ρ⟩ (fun r =>
    ((∀ c : Dev nD, r.2.mem ((c : Thread nD τ).loc main_v18) = finalA m c 7) ∧
      ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨⟨fun c => (h.1 c).1 7, fun c =>
    ⟨(h.1 c).2.1, (h.1 c).2.2.1, (h.1 c).2.2.2.1, (h.1 c).2.2.2.2.1, (h.1 c).2.2.2.2.2.1, (h.1 c).2.2.2.2.2.2.1, (h.1 c).2.2.2.2.2.2.2,
      ((h.1 c).1 6).trans (finalA_arg7 m c)⟩⟩, h.2⟩) (run_main m ρ)

end Cert.Proof.K

end
-- ==== Proof.KI.Loop.lean ====
/-
  The window loop of the kernel body. Before the last slab of a row block is finished, the body walks the windows of
  256 tokens that may hold an id of the block: each trip copies the window's rows of the encoded updates into the
  scratch, waits for them, and adds a product of the selection matrix with those rows to the output block.
-/
module

public import proofs.«01_k».proof.Proof.Gen.KernelIdeal
public import proofs.«01_k».proof.Proof.Gen.KernelIdeal.Skeleton
public import proofs.«01_k».proof.Proof.Gen.KernelIdeal.Loops
public import Idealize.ShloMosaic.Lib.Tactic
public import Idealize.ShloMosaic.Lib.Pipeline.Kit
public import Idealize.ShloMosaic.Lib.WholeRead
public import Idealize.ShloMosaic.Lib.VecWindow
public import Idealize.ShloMosaic.Lib.Pipeline.ValueKit.Basic

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The resource algebra: the pipeline's staging cells, beside the counters of the body's own transfers. -/
abbrev UU (nD : Nat) (τ : Topo) : Type := UR sig nD τ × Counters

local notation "𝕄" => MT nD τ sig Unit (Elt F) ℕ (UU nD τ) ℕ

/-- The output block after `n` windows, from the block `acc` the loop starts at: window `k` adds the product of the
    selection matrix of the window's ids and scales with the window's rows of the encoded updates. -/
def winAcc (i : grid0.Coords) (v38 v40 v43 : BitVec 32) (hw : k0_chk1 i v40 v43) (h2 : k0_cond2 i = 1#1) (v61 : BitVec 32)
    (ids : Vec F S1x11264 .i32) (es : Vec F S1x11264 .f32) (e : Vec F S11264x2560 .fp8e5m2) (acc : Vec F S256x2560 .f32) :
    ℕ → Vec F S256x2560 .f32
  | 0 => acc
  | n + 1 =>
    if h : n < (k0_t1_loop v40 v43).trips then
      k0_pay1 (F := F) v38 v40 v43 v61 ⟨n, h⟩
        (View.ld ids (Rect.unit (s := S1x11264) (k0_off5 v40 v43 ⟨n, h⟩) S1x256.size (k0_off5_inb i v40 v43 hw ⟨n, h⟩ h2)))
        (View.ld es (Rect.unit (s := S1x11264) (k0_off5 v40 v43 ⟨n, h⟩) S1x256.size (k0_off5_inb i v40 v43 hw ⟨n, h⟩ h2)))
        (winAcc i v38 v40 v43 hw h2 v61 ids es e acc n)
        (View.ld e (Rect.unit (s := S11264x2560) (k0_off4 v40 v43 ⟨n, h⟩) S256x2560.size (k0_off4_inb i v40 v43 hw ⟨n, h⟩ h2)))
    else winAcc i v38 v40 v43 hw h2 v61 ids es e acc n

/-- Window `k`'s contribution over the first `k` windows'. -/
theorem winAcc_succ (i : grid0.Coords) (v38 v40 v43 : BitVec 32) (hw : k0_chk1 i v40 v43) (h2 : k0_cond2 i = 1#1) (v61 : BitVec 32)
    (ids : Vec F S1x11264 .i32) (es : Vec F S1x11264 .f32) (e : Vec F S11264x2560 .fp8e5m2) (acc : Vec F S256x2560 .f32)
    (k : Fin (k0_t1_loop v40 v43).trips) :
    winAcc i v38 v40 v43 hw h2 v61 ids es e acc (k.val + 1)
      = k0_pay1 (F := F) v38 v40 v43 v61 k
        (View.ld ids (Rect.unit (s := S1x11264) (k0_off5 v40 v43 k) S1x256.size (k0_off5_inb i v40 v43 hw k h2)))
        (View.ld es (Rect.unit (s := S1x11264) (k0_off5 v40 v43 k) S1x256.size (k0_off5_inb i v40 v43 hw k h2)))
        (winAcc i v38 v40 v43 hw h2 v61 ids es e acc k.val)
        (View.ld e (Rect.unit (s := S11264x2560) (k0_off4 v40 v43 k) S256x2560.size (k0_off4_inb i v40 v43 hw k h2))) :=
  dif_pos k.isLt

section Loop
variable (𝒱 : Variants) (c : Dev nD) (bd : Option 𝒱.V)
variable (i : grid0.Coords) (arg2 : Memref sig .tc .smem S126 .i32) (harg2 : arg2.IsWhole) (arg3 : Memref sig .tc .vmem S2816x256 .fp8e5m2) (harg3 : arg3.IsWhole) (arg4 : Memref sig .tc .vmem S1x2x2816 .f32) (harg4 : arg4.IsWhole) (arg5 : Memref sig .tc .vmem S1x2816 .f32) (harg5 : arg5.IsWhole) (arg6 : Memref sig .tc .vmem S11264x2560 .fp8e4m3) (harg6 : arg6.IsWhole) (arg7 : Memref sig .tc .vmem S1x11264 .i32) (harg7 : arg7.IsWhole) (arg8 : Memref sig .tc .vmem S1x11264 .f32) (harg8 : arg8.IsWhole) (arg9 : Memref sig .tc .hbm S11264x2560 .fp8e5m2) (harg9 : arg9.IsWhole) (arg10 : Memref sig .tc .vmem S256x2560 .f32) (harg10 : arg10.IsWhole) (arg11 : Memref sig .tc .vmem S256x2560 .f32) (harg11 : arg11.IsWhole) (arg12 : Memref sig .tc .vmem S256x2560 .fp8e5m2) (harg12 : arg12.IsWhole) (arg13 : DmaSems sig S_) (k0_h2 : k0_cond2 i = 1#1)
  (v38 : BitVec 32) (v40 v43 : Elt F .i32) (k0_hw1 : k0_chk1 i v40 v43) (v61 : BitVec 32)
  (ids : Vec F S1x11264 .i32) (es : Vec F S1x11264 .f32) (e : Vec F S11264x2560 .fp8e5m2)

/-- What the loop holds while the output block is `acc`. -/
abbrev LoopRes (acc : Vec F S256x2560 .f32) : sProp 𝕄 :=
  iprop((arg7.view.loc (c : Thread nD τ) ↦{fullShare} harg7.unread ids)
    ∗ (arg8.view.loc (c : Thread nD τ) ↦{fullShare} harg8.unread es)
    ∗ (arg9.view.loc (c : Thread nD τ) ↦{fullShare} harg9.unread e)
    ∗ (∃ f, (arg11.view.loc (c : Thread nD τ) ↦{fullShare} f) ∗ ⌜f = harg11.unread acc⌝)
    ∗ (semVal ((c : Thread nD τ), SemLoc.dma arg13.sem) 0)
    ∗ (∃ f, (arg12.view.loc (c : Thread nD τ) ↦{fullShare} f)) ∗ (∃ W, owes (c : Thread nD τ) 0 W))

/-- One trip: the output block takes the window's contribution, everything else is as before. -/
theorem trip (acc : Vec F S256x2560 .f32) (k : Fin (k0_t1_loop v40 v43).trips) :
    LoopRes (F := F) c arg7 harg7 arg8 harg8 arg9 harg9 arg11 harg11 arg12 arg13 ids es e acc
    ⊢ wp frame (wpE (defs₀ (F := F)) 𝒱 (c : Thread nD τ) bd) Set.univ
        (k0_t1_body (F := F) i arg2 harg2 arg3 harg3 arg4 harg4 arg5 harg5 arg6 harg6 arg7 harg7 arg8 harg8 arg9 harg9 arg10 harg10 arg11 harg11 arg12 harg12 arg13 k0_h2 v38 v40 v43 k0_hw1 v61 k PUnit.unit)
        (fun _ => LoopRes (F := F) c arg7 harg7 arg8 harg8 arg9 harg9 arg11 harg11 arg12 arg13 ids es e
          (k0_pay1 (F := F) v38 v40 v43 v61 k
            (View.ld ids (Rect.unit (s := S1x11264) (k0_off5 v40 v43 k) S1x256.size (k0_off5_inb i v40 v43 k0_hw1 k k0_h2)))
            (View.ld es (Rect.unit (s := S1x11264) (k0_off5 v40 v43 k) S1x256.size (k0_off5_inb i v40 v43 k0_hw1 k k0_h2)))
            acc
            (View.ld e (Rect.unit (s := S11264x2560) (k0_off4 v40 v43 k) S256x2560.size (k0_off4_inb i v40 v43 k0_hw1 k k0_h2))))) := by
  unfold k0_t1_body
  iintro ⟨H7, H8, H9, ⟨%f, H11, %hf⟩, Hs, ⟨%f12, H12⟩, ⟨%W, HO⟩⟩
  subst hf
  sl_exec
  sl_step
  isplitl [H7]; · iexact H7
  isplitl [H8]; · iexact H8
  isplitl [H9]; · iexact H9
  isplitl [H11]
  · iexists _; isplitl [H11]; · iexact H11
    ipureintro
    apply harg11.eq_unread
    rw [View.read_writes_full]
    unfold trip.sl.dma0
    simp only [View.readAt_eq_ld, View.read_write_univ, Memref.IsWhole.read_unread]
    rw [View.ld_unit_lit _ _ (by decide), View.ld_unit_lit _ _ (by decide)]
    congr 1
    funext x
    exact congrFun (harg9.read_unread e) _
  isplitl [Hs]; · iexact Hs
  isplitl [H12]; · iexists _; iexact H12
  iexists _; iexact HO

/-- The generated classes' instance for the loop: before trip `k` the output block is the sum of the first `k` windows'
    contributions over the block `acc` the loop starts at. -/
@[sl_loop, instance_reducible] def loopInv (acc : Vec F S256x2560 .f32) :
    LoopInvTy_k0_t1 (F := F) Unit ℕ (UU nD τ) ℕ 𝒱 c bd Set.univ i arg2 harg2 arg3 harg3 arg4 harg4 arg5 harg5 arg6 harg6 arg7 harg7 arg8 harg8 arg9 harg9 arg10 harg10 arg11 harg11 arg12 harg12 arg13 k0_h2 v38 v40 v43 k0_hw1 v61 where
  inv := fun k _ => LoopRes (F := F) c arg7 harg7 arg8 harg8 arg9 harg9 arg11 harg11 arg12 arg13 ids es e
    (winAcc i v38 v40 v43 k0_hw1 k0_h2 v61 ids es e acc k)
  step k _ := by
    rw [winAcc_succ]
    exact trip 𝒱 c bd i arg2 harg2 arg3 harg3 arg4 harg4 arg5 harg5 arg6 harg6 arg7 harg7 arg8 harg8 arg9 harg9 arg10 harg10 arg11 harg11 arg12 harg12 arg13 k0_h2 v38 v40 v43 k0_hw1 v61 ids es e _ k

end Loop

end Cert.Proof.KI

end
-- ==== Proof.KI.Body.lean ====
/-
  The kernel body at one grid point, over symbolic memrefs: what the output block holds when the body returns, and
  that everything the body only reads is as it was.
-/
module

public import proofs.«01_k».proof.Proof.KI.Loop
public import Idealize.ShloMosaic.Lib.LoopRemainder

@[expose] public section

noncomputable section

namespace Cert.Proof.KI

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UU nD τ) ℕ

/-- The first slab of a row block: the body's first condition, as the program computes it. -/
abbrev cond1 (i : grid0.Coords) : BitVec 1 :=
  Scalar.cmpi .ne (Scalar.extui (Scalar.cmpi .eq (BitVec.ofNat 32 (i 1).val) 0#32)) 0#32

/-- The first window's starting token, as the program computes it: the word rounded down to a multiple of 128. -/
abbrev baseW (v40 : BitVec 32) : BitVec 32 :=
  Scalar.muli (Scalar.select (Scalar.andi (Scalar.cmpi .ne (Scalar.subi (Scalar.extui (Scalar.cmpi .sgt v40 0#32)) (Scalar.extui (Scalar.cmpi .slt v40 0#32))) (Scalar.subi (Scalar.extui (Scalar.cmpi .sgt 128#32 0#32)) (Scalar.extui (Scalar.cmpi .slt 128#32 0#32)))) (Scalar.cmpi .ne (Scalar.remsi v40 128#32) 0#32)) (Scalar.subi (Scalar.divsi v40 128#32) 1#32) (Scalar.divsi v40 128#32)) 128#32

/-- The row block's first token, read from the table. -/
abbrev loW (i : grid0.Coords) (h2 : k0_cond2 i = 1#1) (T : Vec F S126 .i32) : BitVec 32 :=
  View.ld T (Rect.unit (s := S126) (k0_off2 i) S1.size (k0_off2_inb i h2)) (Shape.Idx.first (numel1_S1.symm ▸ Nat.one_pos))
/-- The next row block's first token, read from the table. -/
abbrev hiW (i : grid0.Coords) (h2 : k0_cond2 i = 1#1) (T : Vec F S126 .i32) : BitVec 32 :=
  View.ld T (Rect.unit (s := S126) (k0_off3 i) S1.size (k0_off3_inb i h2)) (Shape.Idx.first (numel1_S1.symm ▸ Nat.one_pos))

/-- The output block after slab `i 1`'s product is added to the block `acc`. -/
def slab (i : grid0.Coords) (X3 : Vec F S2816x256 .fp8e5m2) (X4 : Vec F S1x2x2816 .f32) (X5 : Vec F S1x2816 .f32)
    (X6 : Vec F S11264x2560 .fp8e4m3) (acc : Vec F S256x2560 .f32) : Vec F S256x2560 .f32 :=
  k0_pay3 (F := F) X3 (View.ld X4 (Rect.unit (s := S1x2x2816) ![0, 0, 0] S1x1x2816.size inb_S1x2x2816_S1x1x2816_0_0_0)) X5
    (View.ld X4 (Rect.unit (s := S1x2x2816) ![0, 1, 0] S1x1x2816.size inb_S1x2x2816_S1x1x2816_0_1_0)) X5
    (View.ld X6 (Rect.unit (s := S11264x2560) (k0_off1 i) S2816x2560.size (k0_off1_inb i))) acc

/-- The output block after the last slab: the windows' contributions over `acc`. -/
def windows (i : grid0.Coords) (h2 : k0_cond2 i = 1#1) (T : Vec F S126 .i32)
    (hw : k0_chk1 i (loW i h2 T) (hiW i h2 T)) (ids : Vec F S1x11264 .i32) (es : Vec F S1x11264 .f32)
    (e : Vec F S11264x2560 .fp8e5m2) (acc : Vec F S256x2560 .f32) : Vec F S256x2560 .f32 :=
  winAcc i (Scalar.muli (BitVec.ofNat 32 (i 0).val) 256#32) (loW i h2 T) (hiW i h2 T) hw h2 (baseW (loW i h2 T)) ids es e acc
    (k0_t1_loop (loW i h2 T) (hiW i h2 T)).trips

section Body
variable (c : Dev nD)
variable (i : grid0.Coords) (arg2 : Memref sig .tc .smem S126 .i32) (harg2 : arg2.IsWhole) (arg3 : Memref sig .tc .vmem S2816x256 .fp8e5m2) (harg3 : arg3.IsWhole) (arg4 : Memref sig .tc .vmem S1x2x2816 .f32) (harg4 : arg4.IsWhole) (arg5 : Memref sig .tc .vmem S1x2816 .f32) (harg5 : arg5.IsWhole) (arg6 : Memref sig .tc .vmem S11264x2560 .fp8e4m3) (harg6 : arg6.IsWhole) (arg7 : Memref sig .tc .vmem S1x11264 .i32) (harg7 : arg7.IsWhole) (arg8 : Memref sig .tc .vmem S1x11264 .f32) (harg8 : arg8.IsWhole) (arg9 : Memref sig .tc .hbm S11264x2560 .fp8e5m2) (harg9 : arg9.IsWhole) (arg10 : Memref sig .tc .vmem S256x2560 .f32) (harg10 : arg10.IsWhole) (arg11 : Memref sig .tc .vmem S256x2560 .f32) (harg11 : arg11.IsWhole) (arg12 : Memref sig .tc .vmem S256x2560 .fp8e5m2) (harg12 : arg12.IsWhole) (arg13 : DmaSems sig S_)

/-- Memref `M` of core `c` held whole at the contents that read `X`. -/
abbrev holds {sp : Space} {S : Shape} {e : EltTy} (M : Memref sig .tc sp S e) (h : M.IsWhole) (X : Vec F S e) : sProp 𝕄 :=
  M.view.loc (c : Thread nD τ) ↦{fullShare} h.unread X

variable (T : Vec F S126 .i32) (X3 : Vec F S2816x256 .fp8e5m2) (X4 : Vec F S1x2x2816 .f32) (X5 : Vec F S1x2816 .f32)
  (X6 : Vec F S11264x2560 .fp8e4m3) (ids : Vec F S1x11264 .i32) (es : Vec F S1x11264 .f32)
  (e : Vec F S11264x2560 .fp8e5m2) (X10 : Vec F S256x2560 .f32)

/-- What the body holds while its output block is `acc`: the table, its blocks, the encoded updates, its semaphore at
    zero, and its scratch at some contents. -/
abbrev BodyRes (acc : Vec F S256x2560 .f32) : sProp 𝕄 :=
  iprop(holds c arg2 harg2 T ∗ holds c arg3 harg3 X3 ∗ holds c arg4 harg4 X4 ∗ holds c arg5 harg5 X5 ∗ holds c arg6 harg6 X6
    ∗ holds c arg7 harg7 ids ∗ holds c arg8 harg8 es ∗ holds c arg9 harg9 e ∗ holds c arg10 harg10 X10
    ∗ holds c arg11 harg11 acc ∗ (semVal ((c : Thread nD τ), SemLoc.dma arg13.sem) 0)
    ∗ (∃ f, arg12.view.loc (c : Thread nD τ) ↦{fullShare} f) ∗ (∃ W, owes (c : Thread nD τ) 0 W))

omit [FloatOps F] in
/-- Storing over the whole of a memref leaves the stored value. -/
theorem store_whole (b : arg11.view.ty.Contents (Elt F)) (w : Vec F S256x2560 .f32) (L : List (View.Piece (Elt F) S256x2560 .f32)) :
    arg11.view.writes (Elt F) b (⟨Rect.unit (s := S256x2560) ![0, 0] S256x2560.size inb_S256x2560_S256x2560_0_0, w⟩ :: L) = harg11.unread w :=
  harg11.eq_unread (View.read_writes_full ..)

/-- The stored sum, in the words the loads of whole memrefs give, is `slab`. -/
theorem slab_eq (acc' : Vec F S256x2560 .f32) (acc : Vec F S256x2560 .f32) (hacc : acc' = acc) :
    k0_pay3 (F := F)
            (View.readAt (Elt F) arg3.view (Rect.unit (s := S2816x256) ![0, 0] S2816x256.size inb_S2816x256_S2816x256_0_0).toLoadRect
              (harg3.unread X3))
            (View.readAt (Elt F) arg4.view
              (Rect.unit (s := S1x2x2816) ![0, 0, 0] S1x1x2816.size inb_S1x2x2816_S1x1x2816_0_0_0).toLoadRect (harg4.unread X4))
            (View.readAt (Elt F) arg5.view (Rect.unit (s := S1x2816) ![0, 0] S1x2816.size inb_S1x2816_S1x2816_0_0).toLoadRect
              (harg5.unread X5))
            (View.readAt (Elt F) arg4.view
              (Rect.unit (s := S1x2x2816) ![0, 1, 0] S1x1x2816.size inb_S1x2x2816_S1x1x2816_0_1_0).toLoadRect (harg4.unread X4))
            (View.readAt (Elt F) arg5.view (Rect.unit (s := S1x2816) ![0, 0] S1x2816.size inb_S1x2816_S1x2816_0_0).toLoadRect
              (harg5.unread X5))
            (View.readAt (Elt F) arg6.view (Rect.unit (s := S11264x2560) (k0_off1 i) S2816x2560.size (k0_off1_inb i)).toLoadRect (harg6.unread X6))
            acc' = slab i X3 X4 X5 X6 acc := by
  subst hacc
  unfold slab
  simp only [View.readAt_eq_ld, Memref.IsWhole.read_unread]
  rw [View.ld_unit_lit _ _ (by decide), View.ld_unit_lit _ _ (by decide)]

/-- A middle slab: its product is added to the block. -/
theorem body_mid (h1 : ¬cond1 i = 1#1) (h2 : ¬k0_cond2 i = 1#1) (acc : Vec F S256x2560 .f32) (Q : PUnit → sProp 𝕄) :
    iprop(BodyRes c arg2 harg2 arg3 harg3 arg4 harg4 arg5 harg5 arg6 harg6 arg7 harg7 arg8 harg8 arg9 harg9 arg10 harg10 arg11 harg11 arg12 arg13 T X3 X4 X5 X6 ids es e X10 acc
      ∗ (BodyRes c arg2 harg2 arg3 harg3 arg4 harg4 arg5 harg5 arg6 harg6 arg7 harg7 arg8 harg8 arg9 harg9 arg10 harg10 arg11 harg11 arg12 arg13 T X3 X4 X5 X6 ids es e X10
          (slab i X3 X4 X5 X6 acc) -∗ Q ⟨⟩))
    ⊢ wp frame (wpE (defs₀ (F := F)) Variants.none (c : Thread nD τ) none) Set.univ
        (cc0_dw (F := F) i arg2 harg2 arg3 harg3 arg4 harg4 arg5 harg5 arg6 harg6 arg7 harg7 arg8 harg8 arg9 harg9 arg10 harg10 arg11 harg11 arg12 harg12 arg13) Q := by
  iintro ⟨⟨H2, H3, H4, H5, H6, H7, H8, H9, H10, H11, Hs, ⟨%f12, H12⟩, ⟨%W, HO⟩⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · rw [store_whole, slab_eq i arg3 harg3 arg4 harg4 arg5 harg5 arg6 harg6 X3 X4 X5 X6 _ acc]
    · iexact H11
    · rw [View.readAt_eq_ld, Memref.IsWhole.read_unread, View.ld_unit_lit _ _ (by decide)]
  isplitl [Hs]; · iexact Hs
  isplitl [H12]; · iexists _; iexact H12
  iexists _; iexact HO

/-- The windows' recursion at words equal to the table's. -/
theorem windows_eq (h2 : k0_cond2 i = 1#1) (hw : k0_chk1 i (loW i h2 T) (hiW i h2 T)) {a b : BitVec 32}
    (ha : a = loW i h2 T) (hb : b = hiW i h2 T) (hw' : k0_chk1 i a b) (acc : Vec F S256x2560 .f32) :
    winAcc i (Scalar.muli (BitVec.ofNat 32 (i 0).val) 256#32) a b hw' h2 (baseW a) ids es e acc (k0_t1_loop a b).trips
      = windows i h2 T hw ids es e acc := by
  subst ha hb; rfl

/-- The first slab: the output block takes the launch contents, then the slab's product. -/
theorem body_first (h1 : cond1 i = 1#1) (h2 : ¬k0_cond2 i = 1#1) (acc : Vec F S256x2560 .f32) (Q : PUnit → sProp 𝕄) :
    iprop(BodyRes c arg2 harg2 arg3 harg3 arg4 harg4 arg5 harg5 arg6 harg6 arg7 harg7 arg8 harg8 arg9 harg9 arg10 harg10 arg11 harg11 arg12 arg13 T X3 X4 X5 X6 ids es e X10 acc
      ∗ (BodyRes c arg2 harg2 arg3 harg3 arg4 harg4 arg5 harg5 arg6 harg6 arg7 harg7 arg8 harg8 arg9 harg9 arg10 harg10 arg11 harg11 arg12 arg13 T X3 X4 X5 X6 ids es e X10
          (slab i X3 X4 X5 X6 X10) -∗ Q ⟨⟩))
    ⊢ wp frame (wpE (defs₀ (F := F)) Variants.none (c : Thread nD τ) none) Set.univ
        (cc0_dw (F := F) i arg2 harg2 arg3 harg3 arg4 harg4 arg5 harg5 arg6 harg6 arg7 harg7 arg8 harg8 arg9 harg9 arg10 harg10 arg11 harg11 arg12 harg12 arg13) Q := by
  iintro ⟨⟨H2, H3, H4, H5, H6, H7, H8, H9, H10, H11, Hs, ⟨%f12, H12⟩, ⟨%W, HO⟩⟩, Hk⟩
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · rw [store_whole, slab_eq i arg3 harg3 arg4 harg4 arg5 harg5 arg6 harg6 X3 X4 X5 X6 _ X10]
    · iexact H11
    · unfold body_first.sl.v31 body_first.sl.H11_1
      rw [View.readCov_unit_lit _ _ _ (by decide), View.readAt_eq_ld, Memref.IsWhole.read_unread, View.ld_unit_lit _ _ (by decide)]
  isplitl [Hs]; · iexact Hs
  isplitl [H12]; · iexists _; iexact H12
  iexists _; iexact HO

/-- The last slab: its product is added to the block, then the windows' contributions. -/
theorem body_last (h1 : ¬cond1 i = 1#1) (h2 : k0_cond2 i = 1#1) (hw : k0_chk1 i (loW i h2 T) (hiW i h2 T))
    (acc : Vec F S256x2560 .f32) (Q : PUnit → sProp 𝕄) :
    iprop(BodyRes c arg2 harg2 arg3 harg3 arg4 harg4 arg5 harg5 arg6 harg6 arg7 harg7 arg8 harg8 arg9 harg9 arg10 harg10 arg11 harg11 arg12 arg13 T X3 X4 X5 X6 ids es e X10 acc
      ∗ (BodyRes c arg2 harg2 arg3 harg3 arg4 harg4 arg5 harg5 arg6 harg6 arg7 harg7 arg8 harg8 arg9 harg9 arg10 harg10 arg11 harg11 arg12 arg13 T X3 X4 X5 X6 ids es e X10
          (windows i h2 T hw ids es e (slab i X3 X4 X5 X6 acc)) -∗ Q ⟨⟩))
    ⊢ wp frame (wpE (defs₀ (F := F)) Variants.none (c : Thread nD τ) none) Set.univ
        (cc0_dw (F := F) i arg2 harg2 arg3 harg3 arg4 harg4 arg5 harg5 arg6 harg6 arg7 harg7 arg8 harg8 arg9 harg9 arg10 harg10 arg11 harg11 arg12 harg12 arg13) Q := by
  have hlo (h2 : k0_cond2 i = 1#1) : (arg2.view.readAt (Elt F) (Rect.unit (s := S126) (k0_off2 i) S1.size (k0_off2_inb i h2)).toLoadRect (harg2.unread T) (Shape.Idx.first (numel1_S1.symm ▸ Nat.one_pos))) = loW i h2 T :=
    Memref.IsWhole.readAt_unread ..
  have hhi (h2 : k0_cond2 i = 1#1) : (arg2.view.readAt (Elt F) (Rect.unit (s := S126) (k0_off3 i) S1.size (k0_off3_inb i h2)).toLoadRect (harg2.unread T) (Shape.Idx.first (numel1_S1.symm ▸ Nat.one_pos))) = hiW i h2 T :=
    Memref.IsWhole.readAt_unread ..
  have hw' : k0_chk1 i (arg2.view.readAt (Elt F) (Rect.unit (s := S126) (k0_off2 i) S1.size (k0_off2_inb i h2)).toLoadRect (harg2.unread T) (Shape.Idx.first (numel1_S1.symm ▸ Nat.one_pos)))
      (arg2.view.readAt (Elt F) (Rect.unit (s := S126) (k0_off3 i) S1.size (k0_off3_inb i h2)).toLoadRect (harg2.unread T) (Shape.Idx.first (numel1_S1.symm ▸ Nat.one_pos))) := by
    rw [hlo, hhi]; exact hw
  iintro ⟨⟨H2, H3, H4, H5, H6, H7, H8, H9, H10, H11, Hs, ⟨%f12, H12⟩, ⟨%W, HO⟩⟩, Hk⟩
  sl_exec
  unfold body_last.sl.H11_1
  rw [store_whole arg11 harg11, slab_eq i arg3 harg3 arg4 harg4 arg5 harg5 arg6 harg6 X3 X4 X5 X6 _ acc
    (by rw [View.readAt_eq_ld, Memref.IsWhole.read_unread, View.ld_unit_lit _ _ (by decide)])]
  sl_exec
  sl_step
  iapply Hk
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]
  · rw [← windows_eq i T ids es e h2 hw (hlo h2) (hhi h2) hw' _]
    iexact H11
  isplitl [Hs]; · iexact Hs
  isplitl [H12]; · iexists _; iexact H12
  iexists _; iexact HO

end Body

end Cert.Proof.KI

end
-- ==== Proof.KI.Words.lean ====
/-
  The window loop's integer words, for a table whose two entries are `lo ≤ hi ≤ 11264`: the first window starts at
  `lo` rounded down to a multiple of 128, the windows step by 256 tokens, the last possible start is 11008, and the
  loop behind the window loop makes no trip. With these the program's side condition on the table holds.
-/
module

public import proofs.«01_k».proof.Proof.KI.Body
public import Idealize.ShloMosaic.Lib.Affine
public import Idealize.ShloMosaic.Lib.WordArith

@[expose] public section

namespace Cert.Proof.KI

open Cert.KernelIdeal Cert.KernelIdeal.Gen
open Idealize.ShloMosaic Idealize.ShloMosaic.Affine

/-- The first window's first token: `lo` rounded down to a multiple of 128. -/
def base (lo : ℕ) : ℕ := 128 * (lo / 128)
/-- The number of windows of the tokens `lo … hi - 1`. -/
def nWin (lo hi : ℕ) : ℕ := if lo < hi then (hi - base lo + 255) / 256 else 0
/-- Window `k`'s first token: 256 tokens a window from `base lo`, the window kept inside the 11264 tokens. -/
def start (lo k : ℕ) : ℕ := min (base lo + 256 * k) 11008

theorem base_le (lo : ℕ) : base lo ≤ lo := Nat.mul_div_le lo 128
theorem start_le (lo k : ℕ) : start lo k ≤ 11008 := Nat.min_le_right ..
theorem dvd_start (lo k : ℕ) : 128 ∣ start lo k := by
  unfold start base
  rcases Nat.le_total (128 * (lo / 128) + 256 * k) 11008 with h | h
  · rw [Nat.min_eq_left h]; omega
  · rw [Nat.min_eq_right h]; decide

/-- A literal below 2 ^ 31 reads itself. -/
theorem lit (n : ℕ) (h : n < 2 ^ 31 := by decide) : IsInt (BitVec.ofNat 32 n) (n : ℤ) := ofNat n ⟨rfl, h⟩

/-- Floor division as the program writes it out, with the correction for operands of unlike signs. -/
@[reducible] def floorW (x d : BitVec 32) : BitVec 32 :=
  Scalar.select (Scalar.andi (Scalar.cmpi .ne (Scalar.subi (Scalar.extui (Scalar.cmpi .sgt x 0#32)) (Scalar.extui (Scalar.cmpi .slt x 0#32))) (Scalar.subi (Scalar.extui (Scalar.cmpi .sgt d 0#32)) (Scalar.extui (Scalar.cmpi .slt d 0#32)))) (Scalar.cmpi .ne (Scalar.remsi x d) 0#32)) (Scalar.subi (Scalar.divsi x d) 1#32) (Scalar.divsi x d)

/-- It reads the quotient: the operands are not of unlike signs. -/
theorem floorW_isInt {x : BitVec 32} {n d : ℕ} (hx : IsInt x n) (hn : n < 2 ^ 31) (hd : 0 < d) (hd' : d < 2 ^ 31) :
    IsInt (floorW x (BitVec.ofNat 32 d)) ((n / d : ℕ) : ℤ) := by
  have hdi : IsInt (BitVec.ofNat 32 d) (d : ℤ) := lit d hd'
  have hq : (n : ℤ) / d = ((n / d : ℕ) : ℤ) := by push_cast; rfl
  have hle : n / d ≤ n := Nat.div_le_self ..
  have hdiv := Affine.divsi hx hdi (e := ((n / d : ℕ) : ℤ)) ⟨hq.symm, by omega, by omega⟩
  have hsub := Affine.subi hdiv (lit 1) (e := ((n / d : ℕ) : ℤ) - 1) ⟨rfl, by generalize n / d = q at *; omega, by generalize n / d = q at *; omega⟩
  refine select_fails ?_ hsub hdiv rfl
  have hsd : IsInt (Scalar.subi (Scalar.extui (Scalar.cmpi .sgt (BitVec.ofNat 32 d) 0#32)) (Scalar.extui (Scalar.cmpi .slt (BitVec.ofNat 32 d) 0#32))) 1 :=
    Affine.subi (extui_holds (sgt_holds hdi (lit 0) (by omega)) rfl) (extui_fails (slt_fails hdi (lit 0) (by omega)) rfl) (by decide)
  have hlt : Fails (Scalar.cmpi .slt x 0#32) := slt_fails hx (lit 0) (by omega)
  by_cases h0 : n = 0
  · have hrem : IsInt (Scalar.remsi x (BitVec.ofNat 32 d)) 0 := Affine.remsi hx hdi ⟨by subst h0; simp, by omega, by omega⟩
    exact andi_fails_right (cmpi_term _ (word _) (word _)) (ne_fails hrem (lit 0) rfl)
  · have h2 : IsInt (Scalar.subi (Scalar.extui (Scalar.cmpi .sgt x 0#32)) (Scalar.extui (Scalar.cmpi .slt x 0#32))) 1 :=
      Affine.subi (extui_holds (sgt_holds hx (lit 0) (by omega)) rfl) (extui_fails hlt rfl) (by decide)
    exact andi_fails_left (ne_fails h2 hsd rfl) (cmpi_term _ (word _) (word _))

section
variable {v40 v43 : BitVec 32} {lo hi : ℕ} (h40 : IsInt v40 lo) (h43 : IsInt v43 hi) (hle : lo ≤ hi) (hhi : hi ≤ 11264)
include h40 hle hhi

/-- The first window's word reads its first token. -/
theorem baseW_isInt : IsInt (baseW v40) (base lo) := by
  have hf := floorW_isInt (d := 128) h40 (by omega) (by decide) (by decide)
  have hb := base_le lo
  exact Affine.muli hf (lit 128) ⟨by unfold base; omega, by omega, by omega⟩

include h43

/-- The number of windows, as the program computes it. -/
@[reducible] def nWinW (v40 v43 : BitVec 32) : BitVec 32 :=
  Scalar.subi (Scalar.select (Scalar.cmpi .sgt v43 v40) (floorW (Scalar.subi (Scalar.addi (Scalar.subi v43 (baseW v40)) 256#32) 1#32) 256#32) 0#32) 0#32

/-- It reads the number of windows. -/
theorem nWinW_isInt : IsInt (nWinW v40 v43) (nWin lo hi) := by
  have hb := base_le lo
  have hw := baseW_isInt h40 hle hhi
  have h63 := Affine.subi h43 hw (e := ((hi - base lo : ℕ) : ℤ)) ⟨by omega, by omega, by omega⟩
  have h64 := Affine.addi h63 (lit 256) (e := ((hi - base lo + 256 : ℕ) : ℤ)) ⟨by push_cast; rfl, by omega, by omega⟩
  have h65 := Affine.subi h64 (lit 1) (e := ((hi - base lo + 255 : ℕ) : ℤ)) ⟨by omega, by omega, by omega⟩
  have h82 := floorW_isInt (d := 256) h65 (by omega) (by decide) (by decide)
  have hn : nWin lo hi ≤ 11519 := by unfold nWin; split <;> omega
  have h83 : IsInt (Scalar.select (Scalar.cmpi .sgt v43 v40) (floorW (Scalar.subi (Scalar.addi (Scalar.subi v43 (baseW v40)) 256#32) 1#32) 256#32) 0#32) (nWin lo hi) := by
    by_cases h : lo < hi
    · exact select_holds (sgt_holds h43 h40 (by omega)) h82 (lit 0) (by unfold nWin; rw [if_pos h])
    · exact select_fails (sgt_fails h43 h40 (by omega)) h82 (lit 0) (by unfold nWin; rw [if_neg h])
  exact Affine.subi h83 (lit 0) ⟨by simp, by omega, by omega⟩

theorem nWin_le : nWin lo hi ≤ 44 := by
  unfold nWin base; split <;> omega

/-- The window loop's upper bound reads the number of windows. -/
theorem ub_isInt : IsInt (k0_t1_loop v40 v43).ub (nWin lo hi) := by
  have hn := nWin_le h40 h43 hle hhi
  have h := nWinW_isInt h40 h43 hle hhi
  have hd := Affine.divsi_one h (lit 1) (e := (nWin lo hi : ℤ)) ⟨rfl, rfl⟩
  have hm := Affine.muli hd (lit 1) (e := (nWin lo hi : ℤ)) ⟨by simp, by omega, by omega⟩
  exact Affine.addi (lit 0) hm ⟨by simp, by omega, by omega⟩

/-- The window loop makes one trip a window. -/
theorem trips_windows : (k0_t1_loop v40 v43).trips = nWin lo hi :=
  trips_eq (lit 0) (ub_isInt h40 h43 hle hhi) (lit 1) _ ⟨by decide, by omega⟩

theorem windows_ok : (k0_t1_loop v40 v43).OK := by
  have hn := nWin_le h40 h43 hle hhi
  exact ok (lit 0) (ub_isInt h40 h43 hle hhi) (lit 1) ⟨by decide, by omega⟩

omit h40 h43 hle hhi in
/-- The loop behind the window loop starts where it ends. -/
theorem rest_lb_eq : (k0_t2_loop v40 v43).lb = (k0_t2_loop v40 v43).ub := by
  show Scalar.addi 0#32 (Scalar.muli (Scalar.divsi (nWinW v40 v43) 1#32) 1#32) = Scalar.addi 0#32 (nWinW v40 v43)
  simp only [Scalar.muli, Scalar.divsi, IntOp.muli, WordArith.divsi_one, BitVec.mul_one]

omit h40 h43 hle hhi in
theorem rest_trips : (k0_t2_loop v40 v43).trips = 0 := by
  show Scf.trips (k0_t2_loop v40 v43).lb (k0_t2_loop v40 v43).ub 1#32 = 0
  rw [rest_lb_eq]
  exact trips_eq (word _) (word _) (lit 1) 0 ⟨by decide, by omega⟩

omit h40 h43 hle hhi in
theorem rest_ok : (k0_t2_loop v40 v43).OK := by
  show Scf.OK (k0_t2_loop v40 v43).lb (k0_t2_loop v40 v43).ub 1#32
  rw [rest_lb_eq]
  have := word_range (k0_t2_loop v40 v43).ub
  exact ok (word _) (word _) (lit 1) ⟨by decide, by omega⟩

/-- Window `k`'s starting word reads its first token. -/
theorem start_isInt (k : Fin (k0_t1_loop v40 v43).trips) : IsInt (k0_mult1 v40 v43 k) (start lo k.val) := by
  have hk := k.isLt.trans_le ((trips_windows h40 h43 hle hhi).le.trans (nWin_le h40 h43 hle hhi))
  have hb := base_le lo
  have hi' := Affine.iv (lit 0) (lit 1) k.val (e := (k.val : ℤ)) ⟨by simp, by omega, by omega⟩
  have h89 := Affine.muli hi' (lit 256) (e := ((256 * k.val : ℕ) : ℤ)) ⟨by omega, by omega, by omega⟩
  have h90 := Affine.addi (baseW_isInt h40 hle hhi) h89 (e := ((base lo + 256 * k.val : ℕ) : ℤ)) ⟨by omega, by omega, by omega⟩
  exact Affine.minsi h90 (lit 11008) (by unfold start; omega)

/-- Window `k`'s rows of the encoded updates start at its first token; -/
theorem off4_eq (k : Fin (k0_t1_loop v40 v43).trips) : k0_off4 v40 v43 k = ![start lo k.val, 0] := by
  have h := nat_eq (start_isInt h40 h43 hle hhi k) _ rfl
  show ![(k0_mult1 v40 v43 k).toNat, 0] = _
  rw [h]

/-- and so do its ids and scales. -/
theorem off5_eq (k : Fin (k0_t1_loop v40 v43).trips) : k0_off5 v40 v43 k = ![0, start lo k.val] := by
  have h := nat_eq (start_isInt h40 h43 hle hhi k) _ rfl
  show ![0, (k0_mult1 v40 v43 k).toNat] = _
  rw [h]

/-- The program's side condition holds of the two words. -/
theorem chk_of (i : grid0.Coords) : k0_chk1 i v40 v43 := by
  have no (k : Fin (k0_t2_loop v40 v43).trips) : False := Nat.not_lt_zero k.val (lt_of_lt_of_eq k.isLt rest_trips)
  refine ⟨fun _ => windows_ok h40 h43 hle hhi, fun k _ => ?_, fun k _ a => ?_, fun k _ hinb => ?_, fun k _ a => ?_, fun _ => rest_ok,
    fun k => (no k).elim, fun k => (no k).elim, fun k => (no k).elim, fun k => (no k).elim⟩
  · rw [nat_eq (start_isInt h40 h43 hle hhi k) _ rfl]; exact dvd_start lo k.val
  · have := start_le lo k.val
    rw [off4_eq h40 h43 hle hhi k]
    fin_cases a
    · show start lo k.val + 256 ≤ 11264; omega
    · show 0 + 2560 ≤ 2560; omega
  · refine words_of_packed (packed_dvd (by decide) ?_ (by decide))
    rw [off4_eq h40 h43 hle hhi k]
    exact (show 4 ∣ 128 by decide).trans (dvd_start lo k.val)
  · have := start_le lo k.val
    rw [off5_eq h40 h43 hle hhi k]
    fin_cases a
    · show 0 + 1 ≤ 1; omega
    · show start lo k.val + 256 ≤ 11264; omega

end

end Cert.Proof.KI
-- ==== Proof.KI.Table.lean ====
/-
  The table of counts the host computes before the kernel runs: entry `j` is the number of tokens whose row number is
  below `256 * j`, as signed words. So the entries grow with `j` and none is above 11264, the number of tokens.
-/
module

public import proofs.«01_k».proof.Proof.KI.Words
public import proofs.«01_k».proof.Proof.Gen.KernelIdeal.Launch
public import Idealize.ShloMosaic.Lib.StableHlo.Predicate
public import Idealize.ShloMosaic.Lib.StableHlo.RunRead

@[expose] public section

namespace Cert.Proof.KI

open Cert.KernelIdeal Cert.KernelIdeal.Gen
open Idealize.ShloMosaic Idealize.ShloMosaic.Affine Idealize.ShloMosaic.StableHlo.Predicate

/-- The number of tokens whose row number is below `256 * j`. -/
def count (ids : IVec S11264 32) (j : ℕ) : ℕ :=
  (Finset.univ.filter fun q : Fin 11264 => (ids (Shape.Idx.ofFin q)).toInt < 256 * (j : ℤ)).card

theorem count_le (ids : IVec S11264 32) (j : ℕ) : count ids j ≤ 11264 :=
  (Finset.card_le_univ _).trans_eq (Fintype.card_fin _)

theorem count_mono (ids : IVec S11264 32) {j k : ℕ} (h : j ≤ k) : count ids j ≤ count ids k :=
  Finset.card_le_card fun q hq => by
    simp only [Finset.mem_filter, Finset.mem_univ, true_and] at hq ⊢
    omega

/-- The table as the host operations write it out. -/
noncomputable def tableW (ids : IVec S11264 32) : IVec S126 32 :=
  Host.reduce IntOp.addi (extui 32 (cmpi .slt
    (broadcastInDim S126x11264 ![0, 1] bcast_S1x11264_S126x11264_0_1 (broadcastInDim S1x11264 ![1] bcast_S11264_S1x11264_1 ids))
    (broadcastInDim S126x11264 ![0, 1] bcast_S126x1_S126x11264_0_1 (broadcastInDim S126x1 ![0] bcast_S126_S126x1_0
      (muli (iotaInDim S126 32 0) (broadcastInDim S126 ![] bcast_S_S126 (constantI S_ 32 256#32)))))) natLt_1_32)
    (constantI S_ 32 0#32) reducesTo_S126x11264_S126_d1 h_S_

/-- The mask's bit of bound `p` and token `q` says whether the token's row number is below `256 * p`. -/
theorem mask_iff (ids : IVec S11264 32) (p : Fin 126) (q : Fin 11264) :
    cmpi .slt (broadcastInDim S126x11264 ![0, 1] bcast_S1x11264_S126x11264_0_1 (broadcastInDim S1x11264 ![1] bcast_S11264_S1x11264_1 ids))
      (broadcastInDim S126x11264 ![0, 1] bcast_S126x1_S126x11264_0_1 (broadcastInDim S126x1 ![0] bcast_S126_S126x1_0
        (muli (iotaInDim S126 32 0) (broadcastInDim S126 ![] bcast_S_S126 (constantI S_ 32 256#32))))) (ij p q) = 1#1
      ↔ (ids (Shape.Idx.ofFin q)).toInt < 256 * (p.val : ℤ) := by
  have hcmp (a b : IVec S126x11264 32) (k : S126x11264.Idx) : cmpi .slt a b k = IntOp.cmpi .slt (a k) (b k) := rfl
  have hmul (a b : IVec S126 32) (k : S126.Idx) : muli a b k = a k * b k := rfl
  have hw : broadcastInDim S126 ![] bcast_S_S126 (constantI S_ 32 256#32) (Shape.Idx.ofFin p) = 256#32 := rfl
  rw [hcmp, bcast_cols (n := 126) (m := 11264), bcast_rows (n := 126) (m := 11264)]
  rw [hmul, hw, iota_apply]
  have hj : p.val < 126 := p.isLt
  have h : (BitVec.ofNat 32 p.val * 256#32) = BitVec.ofNat 32 (256 * p.val) := by
    rw [show (256#32) = BitVec.ofNat 32 256 from rfl, ← BitVec.ofNat_mul, Nat.mul_comm]
  rw [h]
  unfold IntOp.cmpi
  rw [ofBool_eq_one_iff]
  simp only [BitVec.slt, toInt_ofNat_small _ (show 256 * p.val < 2 ^ 31 by omega), decide_eq_true_eq]
  push_cast
  rfl

/-- Entry `j` of the table is the count. -/
theorem tableW_toNat (ids : IVec S11264 32) (j : S126.Idx) : (tableW ids j).toNat = count ids (j 0).val := by
  unfold tableW
  rw [toNat_reduce_count_cols (n := 126) (m := 11264) (by omega)]
  unfold count
  exact congrArg Finset.card (Finset.filter_congr fun q _ => mask_iff ids (j 0) q)

/-- Read as an integer word. -/
theorem tableW_isInt (ids : IVec S11264 32) (j : S126.Idx) : IsInt (tableW ids j) (count ids (j 0).val : ℤ) := by
  have h := tableW_toNat ids j
  have hc := count_le ids (j 0).val
  rw [show tableW ids j = BitVec.ofNat 32 (count ids (j 0).val) from BitVec.eq_of_toNat_eq (by rw [h, BitVec.toNat_ofNat]; omega)]
  exact lit _ (by omega)

variable {F : FTy → Type} [FloatOps F]

/-- The array the kernel reads its table from holds that table when the kernel starts. -/
theorem table_eq (V₀ : Valuation τ sig (Elt F)) :
    StableHlo.after (hostOps0 (F := F)) V₀ (Proc.devRef .tc main_v17) = tableW (V₀ (Proc.devRef .tc main_arg6)) := by
  after_reads_simp
  rfl

end Cert.Proof.KI
-- ==== Proof.KI.Data.lean ====
/-
  What every buffer of the kernel holds at every grid point. Point `t` handles row block `t / 4` and token slab
  `t % 4`. The host's table is the counts of `Table.lean`; each input window holds its array's block; the output
  window's block starts from the launch contents at slab 0, takes one slab's product a point, and after slab 3 the
  windows' contributions. The body keeps to this at every point (`body_obligation`).
-/
module

public import proofs.«01_k».proof.Proof.KI.Table
public import Idealize.ShloMosaic.Lib.Pipeline.Regions
public import Idealize.ShloMosaic.Lib.Pipeline.FrameBody

@[expose] public section

noncomputable section

namespace Cert.Proof.KI

open Cert.KernelIdeal Cert.KernelIdeal.Gen

open Idealize.ShloMosaic Idealize.ShloMosaic.Affine
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

/-! ## The grid's points -/

theorem coord0 (t : Fin grid0.N) : (grid0.coords t 0).val = t.val / 4 % 125 :=
  Pipeline.Grid.coords_val t 0 (by decide) rfl
theorem coord1 (t : Fin grid0.N) : (grid0.coords t 1).val = t.val % 4 :=
  (Pipeline.Grid.coords_val t 1 (S := 1) (B := 4) (by decide) rfl).trans (by rw [Nat.div_one])

/-- The first condition holds at slab 0 alone, -/
theorem cond1_iff (i : grid0.Coords) : cond1 i = 1#1 ↔ (i 1).val = 0 :=
  (by decide : ∀ n : Fin 4, Scalar.cmpi .ne (Scalar.extui (Scalar.cmpi .eq (BitVec.ofNat 32 n.val) 0#32)) 0#32 = 1#1 ↔ n.val = 0) (i 1)
/-- the second at slab 3 alone. -/
theorem cond2_iff (i : grid0.Coords) : k0_cond2 i = 1#1 ↔ (i 1).val = 3 :=
  (by decide : ∀ n : Fin 4, Scalar.cmpi .ne (Scalar.extui (Scalar.cmpi .eq (BitVec.ofNat 32 n.val) 3#32)) 0#32 = 1#1 ↔ n.val = 3) (i 1)

theorem off2_eq (i : grid0.Coords) : k0_off2 i = ![(i 0).val] := by
  have h : (i 0).val < 125 := (i 0).isLt
  show ![(BitVec.ofNat 32 (i 0).val).toNat] = _
  rw [BitVec.toNat_ofNat, Nat.mod_eq_of_lt (by omega)]
theorem off3_eq (i : grid0.Coords) : k0_off3 i = ![(i 0).val + 1] := by
  have h : (i 0).val < 125 := (i 0).isLt
  show ![(BitVec.ofNat 32 (i 0).val + 1#32).toNat] = _
  rw [BitVec.toNat_add, BitVec.toNat_ofNat]
  show ![((i 0).val % 2 ^ 32 + 1) % 2 ^ 32] = _
  rw [Nat.mod_eq_of_lt (by omega), Nat.mod_eq_of_lt (by omega)]

/-! ## The table's two words of a row block -/

/-- One word of the table loaded at offset `n`. -/
theorem ld_table (ids : IVec S11264 32) (off : Fin 1 → ℕ) (hin : ∀ a, off a + S1.size a ≤ S126.size a) (n : ℕ) (hoff : off = ![n])
    (z : (Rect.unit (s := S126) off S1.size hin).shape.Idx) :
    IsInt (View.ld (Val := Elt F) (e' := .i32) (tableW ids) (Rect.unit (s := S126) off S1.size hin) z : BitVec 32) (count ids n : ℤ) := by
  have h := tableW_isInt ids ((Rect.unit (s := S126) off S1.size hin).emb z)
  have hz : (z 0).val < 1 := (z 0).isLt
  have he : ((Rect.unit (s := S126) off S1.size hin).emb z 0).val = n := by
    rw [Rect.emb_apply]
    subst hoff
    show n + 1 * (z 0).val = n
    omega
  rw [he] at h
  exact h

variable (ids : IVec S11264 32)

theorem loW_isInt (i : grid0.Coords) (h2 : k0_cond2 i = 1#1) : IsInt (loW (F := F) i h2 (tableW ids)) (count ids (i 0).val : ℤ) :=
  ld_table (F := F) ids _ _ _ (off2_eq i) _
theorem hiW_isInt (i : grid0.Coords) (h2 : k0_cond2 i = 1#1) : IsInt (hiW (F := F) i h2 (tableW ids)) (count ids ((i 0).val + 1) : ℤ) :=
  ld_table (F := F) ids _ _ _ (off3_eq i) _

/-- The program's side condition on the table holds at every row block. -/
theorem chk (i : grid0.Coords) (h2 : k0_cond2 i = 1#1) : k0_chk1 i (loW (F := F) i h2 (tableW ids)) (hiW (F := F) i h2 (tableW ids)) :=
  chk_of (loW_isInt ids i h2) (hiW_isInt ids i h2) (count_mono ids (Nat.le_succ _)) (count_le ids _) i

/-! ## The buffers when the kernel starts -/

variable (m : (ℓ : Loc nD τ sig) → Buf (Elt F) ℓ)

/-- Core `c`'s buffers at launch, -/
abbrev V₀ (c : Dev nD) : Valuation τ sig (Elt F) := fun b => m ((c : Dev nD), b)
/-- and when the kernel starts: the host operations have run. -/
abbrev V (c : Dev nD) (b : Ref sig .tc) : Buf (Elt F) ((c : Thread nD τ).loc b) := StableHlo.after hostOps0 (V₀ m c) b

/-- The tokens' row numbers. -/
abbrev idsOf (c : Dev nD) : IVec S11264 32 := m ((c : Thread nD τ).loc main_arg6)
/-- The encoded updates. -/
abbrev updOf (c : Dev nD) : Vec F S11264x2560 .fp8e5m2 := m ((c : Thread nD τ).loc main_arg4)

theorem V_table (c : Dev nD) : V m c main_v17 = tableW (idsOf m c) := table_eq (V₀ m c)

/-- The contents the kernel's table is read at. -/
def adm (_ : Fin 1) : (pcfg0 (F := F)).Adm := ⟨fun k => V m 0 (pre0.ref k), trivial⟩

/-- The kernel's pipeline at that table. -/
abbrev cfgA : Cfg sig Λ₀ := cfg0 (adm m 0)

/-- Window `w`'s block at point `t`, read off its array. -/
def iblk (c : Dev nD) (w : Fin (cfgA m).W) (t : Fin (cfgA m).N) :
    (((cfgA m).win w).xblock ((cfgA m).grid.coords t)).Idx → Elt F ((cfgA m).win w).elt :=
  (((cfgA m).win w).blk t).view.read (Elt F) (V m c (Pipeline.arrRef spec0 w))

/-- What the output block holds after point `t`, from what it held before. -/
def stepAt (c : Dev nD) (t : Fin (cfgA m).N) (prev : Vec F S256x2560 .f32) : Vec F S256x2560 .f32 :=
  if cond1 (grid0.coords t) = 1#1 then slab (grid0.coords t) (iblk m c 0 t) (iblk m c 1 t) (iblk m c 2 t) (iblk m c 3 t) (iblk m c 6 t)
  else if h2 : k0_cond2 (grid0.coords t) = 1#1 then
    windows (grid0.coords t) h2 (tableW (idsOf m c)) (chk (idsOf m c) (grid0.coords t) h2) (iblk m c 4 t) (iblk m c 5 t) (updOf m c)
      (slab (grid0.coords t) (iblk m c 0 t) (iblk m c 1 t) (iblk m c 2 t) (iblk m c 3 t) prev)
  else slab (grid0.coords t) (iblk m c 0 t) (iblk m c 1 t) (iblk m c 2 t) (iblk m c 3 t) prev

/-- The output block after point `n`. -/
def accAt (c : Dev nD) : (n : ℕ) → n < (cfgA m).N → Vec F S256x2560 .f32
  | 0, h => stepAt m c ⟨0, h⟩ (iblk m c 6 ⟨0, h⟩)
  | n + 1, h => stepAt m c ⟨n + 1, h⟩ (accAt c n (Nat.lt_of_succ_lt h))

/-- At slab 0 what the block held before does not matter. -/
theorem stepAt_first (c : Dev nD) (t : Fin (cfgA m).N) (h : t.val % 4 = 0) (d d' : Vec F S256x2560 .f32) :
    stepAt m c t d = stepAt m c t d' := by
  unfold stepAt
  have h1 : cond1 (grid0.coords t) = 1#1 := (cond1_iff _).mpr ((coord1 t).trans h)
  rw [if_pos h1, if_pos h1]

theorem accAt_first (c : Dev nD) (t : Fin (cfgA m).N) (h : t.val % 4 = 0) (d : Vec F S256x2560 .f32) :
    accAt m c t.val t.isLt = stepAt m c t d := by
  obtain ⟨_ | n, ht⟩ := t
  · exact stepAt_first m c ⟨0, ht⟩ h _ _
  · exact stepAt_first m c ⟨n + 1, ht⟩ h _ _

theorem accAt_next (c : Dev nD) (t : Fin (cfgA m).N) (h : t.val ≠ 0) :
    accAt m c t.val t.isLt = stepAt m c t (accAt m c (t.val - 1) (Nat.lt_of_le_of_lt (Nat.sub_le _ _) t.isLt)) := by
  obtain ⟨_ | n, ht⟩ := t
  · exact absurd rfl h
  · rfl

/-- The kernel's own semaphore. -/
def osem (_ : Fin 1) : SemLoc sig := SemLoc.dma cc0_scratch1.sem

/-- What the body keeps between points beside the windows: the table, the encoded updates, its semaphore at zero, and
    its scratch at some contents. -/
def Φc (c : Dev nD) : sProp 𝕄 :=
  iprop(holds c (Memref.whole main_v17) (Memref.isWhole_whole _) (tableW (idsOf m c) : Vec F S126 .i32)
    ∗ holds c (Memref.whole main_arg4) (Memref.isWhole_whole _) (updOf m c)
    ∗ (semVal ((c : Thread nD τ), SemLoc.dma cc0_scratch1.sem) 0)
    ∗ (∃ f, (Memref.whole cc0_scratch0).view.loc (c : Thread nD τ) ↦{fullShare} f))

/-- The pipeline's proof data on core `c`. -/
def dats (_ : Fin 1) (c : Dev nD) : Dat τ (Elt F) Unit ℕ (UU nD τ) ℕ (cfgA m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => accAt m c t.val t.isLt
  Φ _ := Φc m c
  q _ := fullShare
  owed _ := 0

theorem A_eq (c : Dev nD) (w : Fin (cfgA m).W) : (dats m 0 c).A w = V m c (Pipeline.arrRef spec0 w) := by
  dsimp only [dats]

theorem after0 (c : Dev nD) (t : Fin (cfgA m).N) : (dats m 0 c).after 0 t = iblk m c 0 t := by dsimp only [dats]; rfl
theorem after1 (c : Dev nD) (t : Fin (cfgA m).N) : (dats m 0 c).after 1 t = iblk m c 1 t := by dsimp only [dats]; rfl
theorem after2 (c : Dev nD) (t : Fin (cfgA m).N) : (dats m 0 c).after 2 t = iblk m c 2 t := by dsimp only [dats]; rfl
theorem after3 (c : Dev nD) (t : Fin (cfgA m).N) : (dats m 0 c).after 3 t = iblk m c 3 t := by dsimp only [dats]; rfl
theorem after4 (c : Dev nD) (t : Fin (cfgA m).N) : (dats m 0 c).after 4 t = iblk m c 4 t := by dsimp only [dats]; rfl
theorem after5 (c : Dev nD) (t : Fin (cfgA m).N) : (dats m 0 c).after 5 t = iblk m c 5 t := by dsimp only [dats]; rfl
theorem after6 (c : Dev nD) (t : Fin (cfgA m).N) : (dats m 0 c).after 6 t = iblk m c 6 t := by dsimp only [dats]; rfl
theorem after7 (c : Dev nD) (t : Fin (cfgA m).N) : (dats m 0 c).after 7 t = accAt m c t.val t.isLt := by dsimp only [dats]; rfl

/-- Each input window's buffer holds its block when the body runs. -/
theorem before0 (c : Dev nD) (t : Fin (cfgA m).N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin (cfgA m).N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin (cfgA m).N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin (cfgA m).N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin (cfgA m).N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin (cfgA m).N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)
theorem before6 (c : Dev nD) (t : Fin (cfgA m).N) (d) : (dats m 0 c).before 6 t d = iblk m c 6 t :=
  ((dats m 0 c).before_in_eq_fetched 6 rfl (fun _ => rfl) (fun _ _ _ => rfl) (fun t => by rw [after6]; unfold Dat.blockOf iblk; rw [A_eq]; try rfl) t d).trans
    (by unfold Dat.fetched Dat.blockOf iblk; rw [A_eq]; try rfl)

/-- The output block is written back at slab 3 alone. -/
theorem flush7 (t : Fin (cfgA m).N) : ((cfgA m).win 7).flush t = true ↔ t.val % 4 = 3 :=
  Window.flush_reads ((cfgA m).win 7) rfl (0 : Fin 2) (show 1 < grid0.bound 0 from by decide)
    (show grid0.fixedAfter spec0_7.reads 0 = true from by decide) (fun i i' h => by
      have h0 : (i 0).val < 125 := (i 0).isLt
      have h0' : (i' 0).val < 125 := (i' 0).isLt
      have e : (BitVec.ofNat 32 (i 0).val).toNat = (BitVec.ofNat 32 (i' 0).val).toNat := congrFun h (0 : Fin 2)
      rw [BitVec.toNat_ofNat, BitVec.toNat_ofNat, Nat.mod_eq_of_lt (by omega), Nat.mod_eq_of_lt (by omega)] at e
      exact Fin.ext e) (P := 4) (m := 3) (show grid0.stride 0 = 4 from by decide) rfl t

/-- The body's step over whatever the output buffer holds before it is what the proof data says it holds after. -/
theorem step_before (c : Dev nD) (t : Fin (cfgA m).N) (d) :
    stepAt m c t ((dats m 0 c).before 7 t d) = accAt m c t.val t.isLt := by
  by_cases h : t.val % 4 = 0
  · exact (accAt_first m c t h _).symm
  · have h0 : t.val ≠ 0 := fun e => h (by rw [e])
    rw [(dats m 0 c).before_out_kept 7 rfl t h0
      (by rw [← Bool.not_eq_true]; intro hf; have := (flush7 m _).mp hf; dsimp only at this; omega) (fun _ => rfl) (fun _ _ => rfl) d,
      after7, accAt_next m c t h0]

/-! ## The body at a point -/

omit [FloatOps F] in
/-- A whole memref owned at contents is its buffer held at them. -/
theorem owns_holds (c : Dev nD) {sp : Space} {S : Shape} {e : EltTy} (M : Memref sig .tc sp S e) (h : M.IsWhole) (X : Vec F S e) :
    (owns (c : Thread nD τ) M fullShare X : sProp 𝕄) ⊣⊢ holds c M h X := by
  unfold owns holds
  rw [h.set_eq_univ]
  constructor
  · iintro ⟨%f, %hf, H⟩
    rw [h.eq_unread hf]
    iexact H
  · iintro H
    iexists _; isplitr; swap; (· iexact H); ipureintro; exact h.read_unread X

section Point
variable (c : Dev nD) (t : Fin grid0.N)
variable (arg3 : Memref sig .tc .vmem S2816x256 .fp8e5m2) (harg3 : arg3.IsWhole) (arg4 : Memref sig .tc .vmem S1x2x2816 .f32) (harg4 : arg4.IsWhole)
  (arg5 : Memref sig .tc .vmem S1x2816 .f32) (harg5 : arg5.IsWhole) (arg6 : Memref sig .tc .vmem S11264x2560 .fp8e4m3) (harg6 : arg6.IsWhole)
  (arg7 : Memref sig .tc .vmem S1x11264 .i32) (harg7 : arg7.IsWhole) (arg8 : Memref sig .tc .vmem S1x11264 .f32) (harg8 : arg8.IsWhole)
  (arg10 : Memref sig .tc .vmem S256x2560 .f32) (harg10 : arg10.IsWhole) (arg11 : Memref sig .tc .vmem S256x2560 .f32) (harg11 : arg11.IsWhole)

/-- What the body holds at point `t` while its output block is `acc`. -/
abbrev PointRes (acc : Vec F S256x2560 .f32) : sProp 𝕄 :=
  BodyRes c (Memref.whole main_v17) (Memref.isWhole_whole _) arg3 harg3 arg4 harg4 arg5 harg5 arg6 harg6 arg7 harg7 arg8 harg8
    (Memref.whole main_arg4) (Memref.isWhole_whole _) arg10 harg10 arg11 harg11 (Memref.whole cc0_scratch0) cc0_scratch1
    (tableW (idsOf m c)) (iblk m c 0 t) (iblk m c 1 t) (iblk m c 2 t) (iblk m c 3 t) (iblk m c 4 t) (iblk m c 5 t) (updOf m c) (iblk m c 6 t) acc

/-- The body takes the output block one step. -/
theorem sound_step (acc : Vec F S256x2560 .f32) (Q : PUnit → sProp 𝕄) :
    iprop(PointRes m c t arg3 harg3 arg4 harg4 arg5 harg5 arg6 harg6 arg7 harg7 arg8 harg8 arg10 harg10 arg11 harg11 acc
      ∗ (PointRes m c t arg3 harg3 arg4 harg4 arg5 harg5 arg6 harg6 arg7 harg7 arg8 harg8 arg10 harg10 arg11 harg11 (stepAt m c t acc) -∗ Q ⟨⟩))
    ⊢ wp frame (wpE (defs₀ (F := F)) Variants.none (c : Thread nD τ) none) Set.univ
        (cc0_dw (F := F) (grid0.coords t) (Memref.whole main_v17) (Memref.isWhole_whole _) arg3 harg3 arg4 harg4 arg5 harg5 arg6 harg6 arg7 harg7 arg8 harg8 (Memref.whole main_arg4) (Memref.isWhole_whole _) arg10 harg10 arg11 harg11 (Memref.whole cc0_scratch0) (Memref.isWhole_whole _) cc0_scratch1) Q := by
  by_cases h1 : cond1 (grid0.coords t) = 1#1
  · have h2 : ¬k0_cond2 (grid0.coords t) = 1#1 := fun h => by
      have := (cond1_iff _).mp h1; have := (cond2_iff _).mp h; omega
    have e : stepAt m c t acc = slab (grid0.coords t) (iblk m c 0 t) (iblk m c 1 t) (iblk m c 2 t) (iblk m c 3 t) (iblk m c 6 t) := by
      unfold stepAt; rw [if_pos h1]
    rw [e]
    exact body_first c (grid0.coords t) _ _ _ _ _ _ _ _ _ _ _ _ _ _ _ _ _ _ _ _ _ _ _ _ _ _ _ _ _ _ _ _ h1 h2 acc Q
  · by_cases h2 : k0_cond2 (grid0.coords t) = 1#1
    · have e : stepAt m c t acc = windows (grid0.coords t) h2 (tableW (idsOf m c)) (chk (idsOf m c) (grid0.coords t) h2) (iblk m c 4 t) (iblk m c 5 t) (updOf m c)
          (slab (grid0.coords t) (iblk m c 0 t) (iblk m c 1 t) (iblk m c 2 t) (iblk m c 3 t) acc) := by
        unfold stepAt; rw [if_neg h1, dif_pos h2]
      rw [e]
      exact body_last c (grid0.coords t) _ _ _ _ _ _ _ _ _ _ _ _ _ _ _ _ _ _ _ _ _ _ _ _ _ _ _ _ _ _ _ _ h1 h2 _ acc Q
    · have e : stepAt m c t acc = slab (grid0.coords t) (iblk m c 0 t) (iblk m c 1 t) (iblk m c 2 t) (iblk m c 3 t) acc := by
        unfold stepAt; rw [if_neg h1, dif_neg h2]
      rw [e]
      exact body_mid c (grid0.coords t) _ _ _ _ _ _ _ _ _ _ _ _ _ _ _ _ _ _ _ _ _ _ _ _ _ _ _ _ _ _ _ _ h1 h2 acc Q

end Point

/-- The call's body at point `t`. -/
theorem defs₀_row (t : Fin (cfgA m).N) : defs₀ (F := F) .tc (cfgA m).body ((cfgA m).bodyArgs t ((cfgA m).slots t))
    = cc0_dw (grid0.coords t) (Memref.whole main_v17) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) cc0_scratch1 := by
  unfold defs₀; rw [Defs.onTc_tc]

/-- The body at point `t`, from the windows' buffers before it to the windows' buffers after it. -/
theorem sound_body (c : Dev nD) (t : Fin (cfgA m).N) :
    iprop(Φc m c ∗ (dats m 0 c).owesAt () t.castSucc
      ∗ (∃ d, owns (c : Thread nD τ) (spec0_0.stage ((cfgA m).slots t 0)) fullShare ((dats m 0 c).before 0 t d)) ∗ (∃ d, owns (c : Thread nD τ) (spec0_1.stage ((cfgA m).slots t 1)) fullShare ((dats m 0 c).before 1 t d)) ∗ (∃ d, owns (c : Thread nD τ) (spec0_2.stage ((cfgA m).slots t 2)) fullShare ((dats m 0 c).before 2 t d)) ∗ (∃ d, owns (c : Thread nD τ) (spec0_3.stage ((cfgA m).slots t 3)) fullShare ((dats m 0 c).before 3 t d)) ∗ (∃ d, owns (c : Thread nD τ) (spec0_4.stage ((cfgA m).slots t 4)) fullShare ((dats m 0 c).before 4 t d)) ∗ (∃ d, owns (c : Thread nD τ) (spec0_5.stage ((cfgA m).slots t 5)) fullShare ((dats m 0 c).before 5 t d)) ∗ (∃ d, owns (c : Thread nD τ) (spec0_6.stage ((cfgA m).slots t 6)) fullShare ((dats m 0 c).before 6 t d)) ∗ (∃ d, owns (c : Thread nD τ) (spec0_7.stage ((cfgA m).slots t 7)) fullShare ((dats m 0 c).before 7 t d)))
    ⊢ wp frame (wpE (defs₀ (F := F)) Variants.none (c : Thread nD τ) none) Set.univ
      (cc0_dw (grid0.coords t) (Memref.whole main_v17) (Memref.isWhole_whole _) (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (Memref.whole main_arg4) (Memref.isWhole_whole _) (spec0_6.stage ((cfgA m).slots t 6)) (hstage0_6 (((cfgA m).slots t 6).cast nbuf0_6)) (spec0_7.stage ((cfgA m).slots t 7)) (hstage0_7 (((cfgA m).slots t 7).cast nbuf0_7)) (Memref.whole cc0_scratch0) (Memref.isWhole_whole _) cc0_scratch1) fun _ =>
      iprop(Φc m c ∗ (dats m 0 c).owesAt () t.succ
        ∗ owns (c : Thread nD τ) (spec0_0.stage ((cfgA m).slots t 0)) fullShare ((dats m 0 c).after 0 t) ∗ owns (c : Thread nD τ) (spec0_1.stage ((cfgA m).slots t 1)) fullShare ((dats m 0 c).after 1 t) ∗ owns (c : Thread nD τ) (spec0_2.stage ((cfgA m).slots t 2)) fullShare ((dats m 0 c).after 2 t) ∗ owns (c : Thread nD τ) (spec0_3.stage ((cfgA m).slots t 3)) fullShare ((dats m 0 c).after 3 t) ∗ owns (c : Thread nD τ) (spec0_4.stage ((cfgA m).slots t 4)) fullShare ((dats m 0 c).after 4 t) ∗ owns (c : Thread nD τ) (spec0_5.stage ((cfgA m).slots t 5)) fullShare ((dats m 0 c).after 5 t) ∗ owns (c : Thread nD τ) (spec0_6.stage ((cfgA m).slots t 6)) fullShare ((dats m 0 c).after 6 t) ∗ owns (c : Thread nD τ) (spec0_7.stage ((cfgA m).slots t 7)) fullShare ((dats m 0 c).after 7 t)) := by
  unfold Dat.owesAt Pipeline.owesWithin
  rw [show (dats m 0 c).owed t.castSucc = 0 from rfl, show (dats m 0 c).owed t.succ = 0 from rfl]
  simp only [before0, before1, before2, before3, before4, before5, before6]
  rw [after0, after1, after2, after3, after4, after5, after6, after7]
  unfold Φc
  iintro ⟨⟨HT, He, Hs, Hf⟩, ⟨%W, %hW, HO⟩, ⟨%d0, H0⟩, ⟨%d1, H1⟩, ⟨%d2, H2⟩, ⟨%d3, H3⟩, ⟨%d4, H4⟩, ⟨%d5, H5⟩, ⟨%d6, H6⟩, ⟨%d7, H7⟩⟩
  ihave H0 := ((owns_holds c (spec0_0.stage ((cfgA m).slots t 0)) (hstage0_0 (((cfgA m).slots t 0).cast nbuf0_0)) (iblk m c 0 t)).mp) $$ H0
  ihave H1 := ((owns_holds c (spec0_1.stage ((cfgA m).slots t 1)) (hstage0_1 (((cfgA m).slots t 1).cast nbuf0_1)) (iblk m c 1 t)).mp) $$ H1
  ihave H2 := ((owns_holds c (spec0_2.stage ((cfgA m).slots t 2)) (hstage0_2 (((cfgA m).slots t 2).cast nbuf0_2)) (iblk m c 2 t)).mp) $$ H2
  ihave H3 := ((owns_holds c (spec0_3.stage ((cfgA m).slots t 3)) (hstage0_3 (((cfgA m).slots t 3).cast nbuf0_3)) (iblk m c 3 t)).mp) $$ H3
  ihave H4 := ((owns_holds c (spec0_4.stage ((cfgA m).slots t 4)) (hstage0_4 (((cfgA m).slots t 4).cast nbuf0_4)) (iblk m c 4 t)).mp) $$ H4
  ihave H5 := ((owns_holds c (spec0_5.stage ((cfgA m).slots t 5)) (hstage0_5 (((cfgA m).slots t 5).cast nbuf0_5)) (iblk m c 5 t)).mp) $$ H5
  ihave H6 := ((owns_holds c (spec0_6.stage ((cfgA m).slots t 6)) (hstage0_6 (((cfgA m).slots t 6).cast nbuf0_6)) (iblk m c 6 t)).mp) $$ H6
  ihave H7 := ((owns_holds c (spec0_7.stage ((cfgA m).slots t 7)) (hstage0_7 (((cfgA m).slots t 7).cast nbuf0_7)) ((dats m 0 c).before 7 t d7)).mp) $$ H7
  iapply (sound_step m c t (spec0_0.stage ((cfgA m).slots t 0)) (hstage0_0 (((cfgA m).slots t 0).cast nbuf0_0)) (spec0_1.stage ((cfgA m).slots t 1)) (hstage0_1 (((cfgA m).slots t 1).cast nbuf0_1)) (spec0_2.stage ((cfgA m).slots t 2)) (hstage0_2 (((cfgA m).slots t 2).cast nbuf0_2)) (spec0_3.stage ((cfgA m).slots t 3)) (hstage0_3 (((cfgA m).slots t 3).cast nbuf0_3)) (spec0_4.stage ((cfgA m).slots t 4)) (hstage0_4 (((cfgA m).slots t 4).cast nbuf0_4)) (spec0_5.stage ((cfgA m).slots t 5)) (hstage0_5 (((cfgA m).slots t 5).cast nbuf0_5)) (spec0_6.stage ((cfgA m).slots t 6)) (hstage0_6 (((cfgA m).slots t 6).cast nbuf0_6)) (spec0_7.stage ((cfgA m).slots t 7)) (hstage0_7 (((cfgA m).slots t 7).cast nbuf0_7)) ((dats m 0 c).before 7 t d7) _)
  isplitl [HT He Hs Hf HO H0 H1 H2 H3 H4 H5 H6 H7]
  · isplitl [HT]; · iexact HT
    isplitl [H0]; · iexact H0
    isplitl [H1]; · iexact H1
    isplitl [H2]; · iexact H2
    isplitl [H3]; · iexact H3
    isplitl [H4]; · iexact H4
    isplitl [H5]; · iexact H5
    isplitl [He]; · iexact He
    isplitl [H6]; · iexact H6
    isplitl [H7]; · iexact H7
    isplitl [Hs]; · iexact Hs
    isplitl [Hf]; · iexact Hf
    iexists W; iexact HO
  rw [step_before]
  iintro ⟨HT, H0, H1, H2, H3, H4, H5, He, H6, H7, Hs, Hf, ⟨%W', HO⟩⟩
  isplitl [HT He Hs Hf]
  · isplitl [HT]; · iexact HT
    isplitl [He]; · iexact He
    isplitl [Hs]; · iexact Hs
    iexact Hf
  isplitl [HO]
  · iexists W'; isplitr; · ipureintro; exact fun _ _ => Or.inl trivial
    iexact HO
  isplitl [H0]; · iapply ((owns_holds c (spec0_0.stage ((cfgA m).slots t 0)) (hstage0_0 (((cfgA m).slots t 0).cast nbuf0_0)) _).mpr); iexact H0
  isplitl [H1]; · iapply ((owns_holds c (spec0_1.stage ((cfgA m).slots t 1)) (hstage0_1 (((cfgA m).slots t 1).cast nbuf0_1)) _).mpr); iexact H1
  isplitl [H2]; · iapply ((owns_holds c (spec0_2.stage ((cfgA m).slots t 2)) (hstage0_2 (((cfgA m).slots t 2).cast nbuf0_2)) _).mpr); iexact H2
  isplitl [H3]; · iapply ((owns_holds c (spec0_3.stage ((cfgA m).slots t 3)) (hstage0_3 (((cfgA m).slots t 3).cast nbuf0_3)) _).mpr); iexact H3
  isplitl [H4]; · iapply ((owns_holds c (spec0_4.stage ((cfgA m).slots t 4)) (hstage0_4 (((cfgA m).slots t 4).cast nbuf0_4)) _).mpr); iexact H4
  isplitl [H5]; · iapply ((owns_holds c (spec0_5.stage ((cfgA m).slots t 5)) (hstage0_5 (((cfgA m).slots t 5).cast nbuf0_5)) _).mpr); iexact H5
  isplitl [H6]; · iapply ((owns_holds c (spec0_6.stage ((cfgA m).slots t 6)) (hstage0_6 (((cfgA m).slots t 6).cast nbuf0_6)) _).mpr); iexact H6
  iapply ((owns_holds c (spec0_7.stage ((cfgA m).slots t 7)) (hstage0_7 (((cfgA m).slots t 7).cast nbuf0_7)) _).mpr); iexact H7

/-- The body keeps to the proof data at every point. -/
theorem body_obligation (c : Dev nD) : BodyObligation (dats m 0 c) (defs₀ (F := F)) Variants.none () Set.univ := fun t => by
  rw [bigSep_W0, bigSep_W0, defs₀_row]
  exact triple_restated (sound_body m c t) rfl .rfl fun _ => .rfl

end Cert.Proof.KI

end
-- ==== Proof.KI.Run.lean ====
/-
  The kernel's run, for any float values: every weakly fair execution terminates, and every final state has each
  window's array at what the pipeline computes from the proof data of `Data.lean`, the arguments as launched, and every
  semaphore counter at zero.
-/
module

public import proofs.«01_k».proof.Proof.KI.Data
public import proofs.«01_k».proof.Proof.Gen.KernelIdeal.Launch
public import Idealize.ShloMosaic.Lib.Pipeline.Regions

@[expose] public section

noncomputable section

namespace Cert.Proof.KI

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig Unit (Elt F) ℕ (UU nD τ) ℕ

/-- The pipeline library's algebra is the left component of the certificate's. -/
abbrev EP : Emb (UR sig nD τ) (MT nD τ sig Unit (Elt F) ℕ (UU nD τ) ℕ) := embL

variable (m : (ℓ : Loc nD τ sig) → Buf (Elt F) ℓ) (ρ : Dev nD → PrngReg)

/-! ## The host operations -/

/-- No host operation writes an argument. -/
theorem V_arg (b : Ref sig .tc) (hb : b ∈ [main_arg0, main_arg1, main_arg2, main_arg3, main_arg4, main_arg5, main_arg6, main_arg7]) (c : Dev nD) :
    V m c b = m ((c : Thread nD τ).loc b) :=
  StableHlo.after_of_forall_not_mem (b := Proc.devRef .tc b) hostOps0 (V₀ m c) (by
    intro op hop
    have hne : ∀ r ∈ [main_v0, main_v1, main_v2, main_v3, main_v4, main_v5, main_v6, main_v7, main_v8, main_c, main_v9, main_v10, main_v11, main_v12, main_v13, main_v14, main_v15, main_v16, main_c_0, main_v17], b ≠ r := by
      revert b; decide
    simp only [List.mem_cons, List.mem_nil_iff, or_false] at hop
    rcases hop with rfl | rfl | rfl | rfl | rfl | rfl | rfl | rfl | rfl | rfl | rfl | rfl | rfl | rfl | rfl | rfl | rfl | rfl | rfl | rfl <;>
      simp only [StableHlo.reshape_writes, StableHlo.unary_writes, StableHlo.binary_writes, StableHlo.nullary_writes, Finset.mem_singleton] <;>
      exact StableHlo.devRef_ne_of_ne (hne _ (by decide)))

/-- The TensorCore's unscoped references, as device buffers: the set the host operations run within. -/
def ucRefs : Finset (DevRef τ sig) := (StableHlo.tcRefs τ sig).filter fun b => ¬ b.isScoped

omit [FloatOps F] in
/-- The launch's unscoped buffers at a valuation are that set held at it. -/
theorem unscopedBufs_held (c : Dev nD) (W : Valuation τ sig (Elt F)) :
    (unscopedBufs c (fun b => W b) : sProp 𝕄) = StableHlo.held (c : Thread nD τ) ucRefs W := by
  unfold unscopedBufs StableHlo.held ucRefs StableHlo.tcRefs
  rw [Finset.filter_map, bigSep_map]
  rfl

omit [FloatOps F] in
/-- An operation on TensorCore references only touches unscoped ones only. -/
theorem sub_ucRefs (op : HloOp τ sig (Elt F)) (h : op.bufs ⊆ StableHlo.tcRefs τ sig) : op.bufs ⊆ ucRefs := fun b hb =>
  Finset.mem_filter.mpr ⟨h hb, fun h' => Bool.false_ne_true ((op.no_scoped b hb).symm.trans h')⟩

/-! ## The launch -/

/-- The layout the launch needs of the kernel's own semaphore: scoped, and no staging semaphore. -/
theorem ownSemFacts : Pipeline.OwnSemFacts spec0 osem := by decide

/-- The launch element: the pipeline library's at the staging cells and the pipeline's transfers. -/
def u₀ : UU nD τ := (initOf (Pipeline.cells (Pipeline.pin (pcfgs (F := F)) (adm m)) (cellOf_inj (adm m))) (Pipeline.launchToks (Pipeline.pin (pcfgs (F := F)) (adm m)) (cellOf_inj (adm m))), 1)

omit [FloatOps F] in
/-- The kernel's own cell at zero. -/
theorem ownSems0_eq (c : Dev nD) :
    (Pipeline.ownSems0 (Ix := Unit) (Name := ℕ) (U := UU nD τ) (Lvl := ℕ) (Val := Elt F) (τ := τ) osem c : sProp 𝕄)
      = semVal ((c : Thread nD τ), SemLoc.dma cc0_scratch1.sem) 0 :=
  Pipeline.ownSems0_eq_of_list c osem [0] (by decide) (by decide)

/-- A window's array after the run, as the pipeline computes it. -/
def finalA (c : Dev nD) (w : Fin (cfgA m).W) : Buf (Elt F) (((cfgA m).win w).arr.view.loc (c : Thread nD τ)) :=
  (dats m 0 c).arrAt w (cfgA m).N

/-- The arguments that no window stages, as launched. -/
def argsHeld (c : Dev nD) : sProp 𝕄 :=
  iprop((((c : Thread nD τ).loc main_arg0) ↦{fullShare} m ((c : Thread nD τ).loc main_arg0))
    ∗ (((c : Thread nD τ).loc main_arg1) ↦{fullShare} m ((c : Thread nD τ).loc main_arg1))
    ∗ (((c : Thread nD τ).loc main_arg2) ↦{fullShare} m ((c : Thread nD τ).loc main_arg2))
    ∗ (((c : Thread nD τ).loc main_arg3) ↦{fullShare} m ((c : Thread nD τ).loc main_arg3))
    ∗ (((c : Thread nD τ).loc main_arg5) ↦{fullShare} m ((c : Thread nD τ).loc main_arg5))
    ∗ (((c : Thread nD τ).loc main_arg6) ↦{fullShare} m ((c : Thread nD τ).loc main_arg6)))

/-- What the run leaves on core `c`. -/
def QC (c : Dev nD) (s : MemSt nD τ sig (Elt F)) : Prop :=
  (∀ w : Fin (cfgA m).W, s.mem (((cfgA m).win w).arr.view.loc (c : Thread nD τ)) = finalA m c w)
    ∧ s.mem ((c : Thread nD τ).loc main_arg0) = m ((c : Thread nD τ).loc main_arg0)
    ∧ s.mem ((c : Thread nD τ).loc main_arg1) = m ((c : Thread nD τ).loc main_arg1)
    ∧ s.mem ((c : Thread nD τ).loc main_arg2) = m ((c : Thread nD τ).loc main_arg2)
    ∧ s.mem ((c : Thread nD τ).loc main_arg3) = m ((c : Thread nD τ).loc main_arg3)
    ∧ s.mem ((c : Thread nD τ).loc main_arg4) = m ((c : Thread nD τ).loc main_arg4)
    ∧ s.mem ((c : Thread nD τ).loc main_arg5) = m ((c : Thread nD τ).loc main_arg5)
    ∧ s.mem ((c : Thread nD τ).loc main_arg6) = m ((c : Thread nD τ).loc main_arg6)

/-- No core owes another anything: no level is assigned. -/
abbrev L : GSem nD τ sig → Finset Unit := fun _ => ∅
abbrev lv : GSem nD τ sig → Unit → ℕ := fun _ _ => 0
abbrev 𝒱₀ : Variants := Variants.none

/-- What rides beside the buffers through the host operations: the core's `owes`. -/
abbrev R (c : Dev nD) : sProp 𝕄 := iprop(∃ W, owes (c : Thread nD τ) (0 : CellTallies nD τ sig Unit) W)

/-- The host segment: the operations over the unscoped buffers. -/
def seg0 : Pipeline.HostSeg (Name := ℕ) (U := UU nD τ) (pcfgs (F := F)) defs₀ 𝒱₀ L lv :=
  Pipeline.HostSeg.ofOps _ _ _ _ _ ucRefs hostOps0 (fun op h => sub_ucRefs op ((List.forall_iff_forall_mem.mp hostOps0_sub) op h))
    (by intro _ h; (repeat (cases h with | head => rfl | tail _ h => ?_)); exact nomatch h) (V₀ m) R

/-- The encoded updates' buffer as launched. -/
abbrev updHeld (c : Dev nD) : sProp 𝕄 := holds c (Memref.whole main_arg4) (Memref.isWhole_whole _) (updOf m c)

/-- What the region leaves for the end. -/
abbrev Tₙ (c : Dev nD) : sProp 𝕄 :=
  iprop((dats m 0 c).arrays ((dats m 0 c).arrAt · (cfgA m).N) ∗ updHeld m c ∗ argsHeld m c)

omit [FloatOps F] in
/-- A whole buffer read as itself is held as itself. -/
theorem holds_whole (c : Dev nD) (b : Ref sig .tc) (f : b.ty.Contents (Elt F)) :
    (holds c (Memref.whole b) (Memref.isWhole_whole b) f : sProp 𝕄) = iprop(((c : Thread nD τ).loc b) ↦{fullShare} f) := by
  unfold holds
  rw [← (Memref.isWhole_whole b).eq_unread (View.read_whole b f)]

omit [FloatOps F] in
/-- The one table, held at contents `v`. -/
theorem prefHeld_one (c : Dev nD) (v : pre0.Contents (Elt F)) :
    (Pipeline.prefHeld pre0 c (fun _ => fullShare) v : sProp 𝕄)
      = iprop(((c : Thread nD τ).loc main_v17) ↦{fullShare} (show Buf (Elt F) ((c : Thread nD τ).loc main_v17) from v 0)) := by
  unfold Pipeline.prefHeld
  rw [show (Finset.univ : Finset (Fin 1)) = {0} from by decide, bigSep_singleton]
  rfl

/-- The kernel's table at its contents. -/
theorem prefHeld_table (c : Dev nD) :
    (Pipeline.prefHeld pre0 c (fun _ => fullShare) (adm m 0).1 : sProp 𝕄)
      = holds c (Memref.whole main_v17) (Memref.isWhole_whole _) (tableW (idsOf m c) : Vec F S126 .i32) := by
  obtain rfl : c = 0 := Subsingleton.elim _ _
  rw [prefHeld_one, holds_whole 0 main_v17]
  dsimp only [adm]
  exact congrArg (fun f : Buf (Elt F) (((0 : Dev nD) : Thread nD τ).loc main_v17) => (iprop((((0 : Dev nD) : Thread nD τ).loc main_v17) ↦{fullShare} f) : sProp 𝕄)) (V_table m 0)

-- `iapply` of a launch lemma stated over the pinned configuration unifies only when unification may unfold plain
-- definitions in a metavariable's type
set_option backward.isDefEq.respectTransparency.types false in
/-- The region: entered from what the host operations leave, left with the windows' arrays at their final contents and
    every argument as launched. -/
def reg0 : Pipeline.RegionSeg (pcfgs (F := F)) (adm m) (dats m) () defs₀ 𝒱₀ L lv 0 where
  win := (launch0 (F := F)).win.to₀
  block_pos := (launch0 (F := F)).block_pos
  stage_whole := (launch0 (F := F)).stage_whole
  K := Fin 1
  osem := osem
  ho := ownSemFacts
  hbody c := (body_obligation m c).loose
  hwaits := Pipeline.hwaits_of_owed_zero _ _ _ _ L lv 0 fun _ _ => rfl
  pre c := iprop(StableHlo.held (c : Thread nD τ) ucRefs (StableHlo.after hostOps0 (V₀ m c)) ∗ R c)
  post c := iprop(Tₙ m c ∗ R c)
  X c := iprop(updHeld m c ∗ semVal ((c : Thread nD τ), SemLoc.dma cc0_scratch1.sem) 0)
  Y c := updHeld m c
  Z c := argsHeld m c
  hentry c := by
    rw [show StableHlo.held (c : Thread nD τ) ucRefs (StableHlo.after hostOps0 (V₀ m c)) = unscopedBufs c (V m c) from (unscopedBufs_held c _).symm,
      ownSems0_eq]
    have hsplit := (Pipeline.arrays_of_unscopedBufs (pcfgs (F := F)) (adm m) (dats m) (launch0 (F := F)).win (launch0 (F := F)).arr_whole c
      ((dats m 0 c).share_full fun _ => rfl) (V m c) (A_eq m c)).trans (sep_mono .rfl (Entails.of_eq
        (Pipeline.unscopedRest_split preFacts0 c (V m c))))
    rw [unscopedRestP0_eq] at hsplit
    have hpre : (Pipeline.prefHeld pre0 c (fun _ => fullShare) (fun k => V m c (pre0.ref k)) : sProp 𝕄)
        = Pipeline.prefHeld pre0 c (fun _ => fullShare) (adm m 0).1 := by
      obtain rfl : c = 0 := Subsingleton.elim _ _
      rfl
    rw [hpre, V_arg m main_arg0 (by decide), V_arg m main_arg1 (by decide), V_arg m main_arg2 (by decide), V_arg m main_arg3 (by decide),
      V_arg m main_arg4 (by decide), V_arg m main_arg5 (by decide), V_arg m main_arg6 (by decide)] at hsplit
    have h4 := Entails.of_eq (holds_whole (F := F) c main_arg4 (updOf m c)).symm
    iintro ⟨⟨Hub, HO⟩, Hos, -⟩
    ihave H := hsplit $$ Hub
    icases H with ⟨Ha, Hp, H0, H1, H2, H3, H4, H5, H6, -⟩
    imodintro
    isplitl [Ha]; · iexact Ha
    isplitl [Hp]; · iexact Hp
    isplitl [HO]
    · unfold Pipeline.Dat.owesAt Pipeline.owesWithin
      icases HO with ⟨%W, HO⟩; iexists W; isplitr; · ipureintro; exact fun _ _ => Or.inl trivial
      iexact HO
    isplitl [H4 Hos]
    · isplitl [H4]; · iapply h4; iexact H4
      iexact Hos
    unfold argsHeld
    isplitl [H0]; · iexact H0
    isplitl [H1]; · iexact H1
    isplitl [H2]; · iexact H2
    isplitl [H3]; · iexact H3
    isplitl [H5]; · iexact H5
    iexact H6
  hin c := by
    rw [show (dats m 0 c).Φ 0 = Φc m c from rfl, scopedRest0_eq]; unfold Φc
    have hp := Entails.of_eq (prefHeld_table m c)
    iintro ⟨⟨H4, Hos⟩, Hp, Hr⟩
    ihave Hp := hp $$ Hp
    isplitl [Hp]; · iexact Hp
    isplitl [H4]; · iexact H4
    isplitl [Hos]; · iexact Hos
    iexact Hr
  hout c := by
    rw [ownSems0_eq (F := F), show (dats m 0 c).Φ (Fin.last (cfgA m).N) = Φc m c from rfl, scopedRest0_eq]; unfold Φc
    iintro ⟨-, H4, Hos, Hr⟩
    isplitl [H4]; · iexact H4
    isplitl [Hos]; · iexact Hos
    iexact Hr
  hexit c := by
    iintro ⟨Ha, HO, HY, HZ⟩
    imodintro
    isplitr [HO]
    · isplitl [Ha]; · iexact Ha
      isplitl [HY]; · iexact HY
      iexact HZ
    · unfold Pipeline.Dat.owesAt Pipeline.owesWithin
      icases HO with ⟨%W, -, HO⟩; iexists W; iexact HO

/-- The program as the list of the two. -/
abbrev segs : List (Pipeline.Seg (pcfgs (F := F)) (adm m) (dats m) () defs₀ 𝒱₀ L lv) := [.host (seg0 m), .region (reg0 m)]

-- the theorem's implicit arguments are found by unifying its conclusion with this one, which takes unfolding plain
-- definitions in a metavariable's type
set_option backward.isDefEq.respectTransparency.types false in
/-- From any memory with zero counters every weakly fair execution terminates, and every final state has the windows'
    arrays at the computed contents, the other arguments unchanged and every counter at zero. -/
theorem run_main : θ_run defs (onTc (τ := τ) (main (F := F))) ⟨m, fun _ => 0, ρ⟩ (fun r => (∀ c, QC m c r.2) ∧ r.2.sem = fun _ => 0) :=
  Pipeline.θ_run_regions_kit_sems (pcfgs (F := F)) (adm m) (dats m) () (cellOf_inj (adm m)) EP defs₀ 𝒱₀ L lv m ρ main (segs m)
    (fun c Q => by rw [main_segs (adm m) (dats m) () 𝒱₀ L lv (seg0 m) (reg0 m) rfl c])
    (by simp only [Pipeline.Seg.pipes_host, Pipeline.Seg.pipes_region, Pipeline.Seg.pipes_nil]; decide) (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) ucRefs (V₀ m c) ∗ R c)) (Tₙ := Tₙ m)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) ucRefs (V₀ m c) from unscopedBufs_held c (V₀ m c)]
      iintro ⟨⟨Hh, -, HO, -, -, -⟩, -⟩
      imodintro
      isplitl [Hh]; · iexact Hh
      iexists ∅; iexact HO)
    (QY := QC m)
    (hfin := fun c s' => by
      dsimp only [Tₙ]; unfold argsHeld updHeld
      rw [holds_whole c main_arg4]
      iintro ⟨⟨Ha, H4, H0, H1, H2, H3, H5, H6⟩, HSI⟩
      icombine HSI H0 gives %h0
      icombine HSI H1 gives %h1
      icombine HSI H2 gives %h2
      icombine HSI H3 gives %h3
      icombine HSI H4 gives %h4
      icombine HSI H5 gives %h5
      icombine HSI H6 gives %h6
      ihave Hr := (Pipeline.arrays_read (pcfgs (F := F)) (adm m) (dats m) (launch0 (F := F)).arr_whole c ((dats m 0 c).share_full fun _ => rfl) _ s') $$ [Ha HSI]
      · isplitl [Ha] <;> iassumption
      icases Hr with ⟨%ha, HSI⟩
      imodintro
      isplitr
      · ipureintro
        exact ⟨ha, Buf.eq_of_forall_mem_univ h0, Buf.eq_of_forall_mem_univ h1, Buf.eq_of_forall_mem_univ h2, Buf.eq_of_forall_mem_univ h3,
          Buf.eq_of_forall_mem_univ h4, Buf.eq_of_forall_mem_univ h5, Buf.eq_of_forall_mem_univ h6⟩
      iexact HSI)
    (hQ := fun _ h hz => ⟨h, funext fun g => hz g (.inr (by revert g; decide))⟩)

/-- The accumulated input ends as launched: its window is an input. -/
theorem finalA_arg7 (c : Dev nD) : finalA m c 6 = m ((c : Thread nD τ).loc main_arg7) :=
  ((dats m 0 c).arrAt_in 6 rfl _).trans ((A_eq m c 6).trans (V_arg m main_arg7 (by decide) c))

/-- The frame, with the result's contents: the arguments end unchanged, the counters at zero, and the result is what
    the pipeline computes for its output window. -/
theorem run_frame : θ_run defs (onTc (τ := τ) (main (F := F))) ⟨m, fun _ => 0, ρ⟩ (fun r =>
    ((∀ c : Dev nD, r.2.mem ((c : Thread nD τ).loc main_v18) = finalA m c 7) ∧
      ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) ∧ r.2.sem = fun _ => 0) :=
  (θ_run defs _ _).mono (fun _ h => ⟨⟨fun c => (h.1 c).1 7, fun c =>
    ⟨(h.1 c).2.1, (h.1 c).2.2.1, (h.1 c).2.2.2.1, (h.1 c).2.2.2.2.1, (h.1 c).2.2.2.2.2.1, (h.1 c).2.2.2.2.2.2.1, (h.1 c).2.2.2.2.2.2.2,
      ((h.1 c).1 6).trans (finalA_arg7 m c)⟩⟩, h.2⟩) (run_main m ρ)

end Cert.Proof.KI

end
-- ==== Proof.Value.Block.lean ====
/-
  What one step of the kernel adds to one element of its output block: the product of a slab of 2816 tokens, and the
  selected rows of a window of 256 tokens.
-/
module

public import proofs.«01_k».proof.Proof.KI.Data
public import Idealize.ShloMosaic.Lib.Pointwise

@[expose] public section

set_option maxRecDepth 16384

noncomputable section

namespace Cert.Proof.KI

open Cert.KernelIdeal Cert.KernelIdeal.Gen
open Idealize.ShloMosaic Idealize.ShloMosaic.Affine

/-- The scale row of a slab that vocabulary row `r` of a block of 256 rows takes: 128 rows to a scale. -/
def half (r : Fin 256) : Fin 2 := ⟨r.val / 128, by omega⟩

/-- Slab `i 1` adds, to row `r` and column `d`, the sum over its 2816 tokens of the scaled gradient times the activation. -/
theorem slab_apply (i : grid0.Coords) (g : Vec Ideal S2816x256 .fp8e5m2) (s : Vec Ideal S1x2x2816 .f32) (xs : Vec Ideal S1x2816 .f32)
    (x : Vec Ideal S11264x2560 .fp8e4m3) (acc : Vec Ideal S256x2560 .f32) (r : Fin 256) (d : Fin 2560) (b : Fin 4) (hb : (i 1).val = b.val) :
    slab i g s xs x acc (ix2 r d)
      = acc (ix2 r d) + ∑ t : Fin 2816, g (ix2 t r) * (s (ix3 0 (half r) t) * xs (ix2 0 t)) * x (ix2 ⟨2816 * b.val + t.val, by omega⟩ d) := by
  have hoff : k0_off1 i = ![2816 * b.val, 0] := by
    have h1 := Affine.muli (lit (i 1).val (by omega)) (lit 2816) (e := ((2816 * b.val : ℕ) : ℤ)) ⟨by omega, by omega, by omega⟩
    have h := nat_eq h1 _ rfl
    unfold k0_off1
    exact congrArg (fun n => ![n, 0]) h
  have hx : ∀ t : Fin 2816, View.ld x (Rect.unit (s := S11264x2560) (k0_off1 i) S2816x2560.size (k0_off1_inb i)) (ix2 t d)
      = x (ix2 ⟨2816 * b.val + t.val, by omega⟩ d) := by
    generalize k0_off1_inb i = h
    revert h
    rw [hoff]
    intro h t
    pointwise
  unfold slab
  generalize View.ld x _ = X at hx
  pointwise [k0_pay3]
  refine congrArg (acc (ix2 r d) + ·) (Finset.sum_congr rfl fun t _ => ?_)
  rw [hx]
  congr 1
  split
  · next h => rw [show half r = 0 from Fin.ext (Nat.div_eq_of_lt h)]
  · next h =>
    rw [show half r = 1 from Fin.ext (by show r.val / 128 = 1; omega), show (⟨128 + (r.val - 128), by omega⟩ : Fin 256) = r from Fin.ext (by show 128 + (r.val - 128) = r.val; omega)]

/-- Reading a row from token `s` on reads the token. -/
theorem ld_row {e : EltTy} (X : Vec Ideal S1x11264 e) {off : Fin 2 → ℕ} {s : ℕ} (h : off = ![0, s]) (hs : s ≤ 11008)
    (inb : ∀ a, off a + S1x256.size a ≤ S1x11264.size a) (x : Fin 256) :
    View.ld X (Rect.unit (s := S1x11264) off S1x256.size inb) (ix2 0 x) = X (ix2 0 ⟨s + x.val, by omega⟩) := by
  subst h
  pointwise

/-- Reading 256 rows from token `s` on reads the token's row. -/
theorem ld_rows {e : EltTy} (X : Vec Ideal S11264x2560 e) {off : Fin 2 → ℕ} {s : ℕ} (h : off = ![s, 0]) (hs : s ≤ 11008)
    (inb : ∀ a, off a + S256x2560.size a ≤ S11264x2560.size a) (x : Fin 256) (d : Fin 2560) :
    View.ld X (Rect.unit (s := S11264x2560) off S256x2560.size inb) (ix2 x d) = X (ix2 ⟨s + x.val, by omega⟩ d) := by
  subst h
  pointwise

/-- What token `t` adds to element `(v, d)`: its scaled update where its id is `v`, and nothing for a number that is no token. -/
def term (ids : Vec Ideal S1x11264 .i32) (es : Vec Ideal S1x11264 .f32) (e : Vec Ideal S11264x2560 .fp8e5m2) (v : ℕ) (d : Fin 2560) (t : ℕ) : EReal :=
  if h : t < 11264 then
    if (ids (ix2 0 ⟨t, h⟩) : BitVec 32).toInt = (v : ℤ) then es (ix2 0 ⟨t, h⟩) * e (ix2 ⟨t, h⟩ d) else 0
  else 0

/-- A window's terms, those before its nominal start left out, are the terms of the 256 tokens from the nominal start on. -/
theorem sum_window (f : ℕ → EReal) (hf : ∀ t, 11264 ≤ t → f t = 0) (n : ℕ) :
    (∑ x : Fin 256, if n ≤ min n 11008 + x.val then f (min n 11008 + x.val) else 0) = ∑ t ∈ Finset.Ico n (n + 256), f t := by
  rw [Fin.sum_univ_eq_sum_range (fun x => if n ≤ min n 11008 + x then f (min n 11008 + x) else 0) 256,
    ← Nat.Ico_zero_eq_range, Finset.sum_Ico_add (fun x => if n ≤ x then f x else 0) 0 256 (min n 11008), ← Finset.sum_filter]
  refine Finset.sum_subset (fun t ht => ?_) (fun t ht hn => hf t ?_)
  · simp only [Finset.mem_filter, Finset.mem_Ico] at ht ⊢; omega
  · simp only [Finset.mem_filter, Finset.mem_Ico] at ht hn; omega

section
variable {v40 v43 : BitVec 32} {lo hi : ℕ} (h40 : IsInt v40 lo) (h43 : IsInt v43 hi) (hle : lo ≤ hi) (hhi : hi ≤ 11264)
include h40 h43 hle hhi

/-- Window `k` adds, to row `r` and column `d` of row block `p`, the scaled updates of its tokens whose id is the row and
    that no earlier window held. -/
theorem pay1_apply (p : ℕ) (hp : p < 125) (k : Fin (k0_t1_loop v40 v43).trips)
    (ids : Vec Ideal S1x256 .i32) (es : Vec Ideal S1x256 .f32) (acc : Vec Ideal S256x2560 .f32) (e : Vec Ideal S256x2560 .fp8e5m2) (r : Fin 256) (d : Fin 2560) :
    k0_pay1 (F := Ideal) (Scalar.muli (BitVec.ofNat 32 p) 256#32) v40 v43 (baseW v40) k ids es acc e (ix2 r d)
      = acc (ix2 r d) + ∑ x : Fin 256, if (ids (ix2 0 x) : BitVec 32).toInt = ((256 * p + r.val : ℕ) : ℤ) ∧ base lo + 256 * k.val ≤ start lo k.val + x.val
          then es (ix2 0 x) * e (ix2 x d) else 0 := by
  pointwise [k0_pay1]
  have hk := k.isLt.trans_le ((trips_windows h40 h43 hle hhi).le.trans (nWin_le h40 h43 hle hhi))
  have hb := base_le lo
  have hs := start_le lo k.val
  have hi' := Affine.iv (lit 0) (lit 1) k.val (e := (k.val : ℤ)) ⟨by simp, by omega, by omega⟩
  have h89 := Affine.muli hi' (lit 256) (e := ((256 * k.val : ℕ) : ℤ)) ⟨by omega, by omega, by omega⟩
  have h90 := Affine.addi (baseW_isInt h40 hle hhi) h89 (e := ((base lo + 256 * k.val : ℕ) : ℤ)) ⟨by omega, by omega, by omega⟩
  have h91 := Affine.minsi h90 (lit 11008) (e := ((start lo k.val : ℕ) : ℤ)) (by unfold start; omega)
  have hm := Affine.muli (lit p (by omega)) (lit 256) (e := ((256 * p : ℕ) : ℤ)) ⟨by omega, by omega, by omega⟩
  refine congrArg (acc (ix2 r d) + ·) (Finset.sum_congr rfl fun x _ => ?_)
  have hrow := Affine.addi hm (lit r.val (by omega)) (e := ((256 * p + r.val : ℕ) : ℤ)) ⟨by omega, by omega, by omega⟩
  have htok := Affine.addi h91 (lit x.val (by omega)) (e := ((start lo k.val + x.val : ℕ) : ℤ)) ⟨by omega, by omega, by omega⟩
  by_cases hA : (ids (ix2 0 x) : BitVec 32).toInt = ((256 * p + r.val : ℕ) : ℤ)
  · have hrowh := eq_holds hrow (word _) hA.symm
    by_cases hB : base lo + 256 * k.val ≤ start lo k.val + x.val
    · rw [if_pos ⟨hA, hB⟩]
      exact if_pos (andi_holds hrowh (sge_holds htok h90 (by omega)))
    · rw [if_neg fun h => hB h.2]
      exact if_neg (andi_fails_right (tH hrowh) (sge_fails htok h90 (by omega)))
  · rw [if_neg fun h => hA h.1]
    exact if_neg (andi_fails_left (eq_fails hrow (word _) fun h => hA h.symm) (cmpi_term .sge htok h90))

/-- After `n` windows, the element holds the terms of the `256 n` tokens from the first window's start on. -/
theorem winAcc_apply (i : grid0.Coords) (hw : k0_chk1 i v40 v43) (h2 : k0_cond2 i = 1#1) (ids : Vec Ideal S1x11264 .i32) (es : Vec Ideal S1x11264 .f32)
    (e : Vec Ideal S11264x2560 .fp8e5m2) (acc : Vec Ideal S256x2560 .f32) (r : Fin 256) (d : Fin 2560) (n : ℕ) (hn : n ≤ (k0_t1_loop v40 v43).trips) :
    winAcc i (Scalar.muli (BitVec.ofNat 32 (i 0).val) 256#32) v40 v43 hw h2 (baseW v40) ids es e acc n (ix2 r d)
      = acc (ix2 r d) + ∑ t ∈ Finset.Ico (base lo) (base lo + 256 * n), term ids es e (256 * (i 0).val + r.val) d t := by
  induction n with
  | zero => simp [winAcc]
  | succ n ih =>
    have hs := start_le lo n
    rw [winAcc_succ i _ v40 v43 hw h2 _ ids es e acc ⟨n, hn⟩, pay1_apply h40 h43 hle hhi (i 0).val (i 0).isLt ⟨n, hn⟩, ih (Nat.le_of_succ_le hn), add_assoc]
    refine congrArg (acc (ix2 r d) + ·) ?_
    rw [← Finset.sum_Ico_consecutive _ (show base lo ≤ base lo + 256 * n by omega) (show base lo + 256 * n ≤ base lo + 256 * (n + 1) by omega)]
    refine congrArg (_ + ·) ?_
    rw [show base lo + 256 * (n + 1) = base lo + 256 * n + 256 by omega,
      ← sum_window _ (fun t ht => dif_neg (by omega)) (base lo + 256 * n)]
    refine Finset.sum_congr rfl fun x _ => ?_
    rw [ld_row (s := start lo n) ids (off5_eq h40 h43 hle hhi ⟨n, hn⟩) hs, ld_row (s := start lo n) es (off5_eq h40 h43 hle hhi ⟨n, hn⟩) hs,
      ld_rows (s := start lo n) e (off4_eq h40 h43 hle hhi ⟨n, hn⟩) hs]
    have ht : start lo n + x.val < 11264 := by omega
    show _ = if base lo + 256 * n ≤ start lo n + x.val then term ids es e (256 * (i 0).val + r.val) d (start lo n + x.val) else 0
    unfold term
    rw [dif_pos ht]
    by_cases hA : base lo + 256 * n ≤ start lo n + x.val
    · simp only [hA, and_true, if_true]
    · simp only [hA, and_false, if_false]

end

end Cert.Proof.KI
-- ==== Proof.Value.Windows.lean ====
/-
  What the windows of one row block add to one element of the output block. The ids are sorted, so the tokens whose id
  lies in the row block are the tokens from the table's entry to the next one, and the windows hold each of them once:
  the element gets the scaled updates of all tokens whose id is the element's row.
-/
module

public import proofs.«01_k».proof.Proof.Value.Block

@[expose] public section

set_option maxRecDepth 16384

noncomputable section

namespace Cert.Proof.KI

open Cert.KernelIdeal Cert.KernelIdeal.Gen
open Idealize.ShloMosaic Idealize.ShloMosaic.Affine

/-- The ids are in ascending order, read signed. -/
def Sorted (ids : IVec S11264 32) : Prop :=
  ∀ p q : Fin 11264, p ≤ q → (ids (Shape.Idx.ofFin p)).toInt ≤ (ids (Shape.Idx.ofFin q)).toInt

/-- Of sorted ids, exactly the first `count ids j` are below `256 * j`. -/
theorem lt_count_iff {ids : IVec S11264 32} (hs : Sorted ids) (j : ℕ) (q : Fin 11264) :
    q.val < count ids j ↔ (ids (Shape.Idx.ofFin q)).toInt < 256 * (j : ℤ) := by
  unfold count
  constructor
  · intro h
    by_contra hn
    have hsub : (Finset.univ.filter fun p : Fin 11264 => (ids (Shape.Idx.ofFin p)).toInt < 256 * (j : ℤ)) ⊆ Finset.Iio q := fun p hp => by
      simp only [Finset.mem_filter, Finset.mem_univ, true_and] at hp
      rw [Finset.mem_Iio]
      by_contra hpq
      exact hn ((hs q p (not_lt.1 hpq)).trans_lt hp)
    have := Finset.card_le_card hsub
    rw [Fin.card_Iio] at this
    omega
  · intro h
    have hsub : Finset.Iic q ⊆ (Finset.univ.filter fun p : Fin 11264 => (ids (Shape.Idx.ofFin p)).toInt < 256 * (j : ℤ)) := fun p hp => by
      rw [Finset.mem_Iic] at hp
      simp only [Finset.mem_filter, Finset.mem_univ, true_and]
      exact (hs p q hp).trans_lt h
    have := Finset.card_le_card hsub
    rw [Fin.card_Iic] at this
    omega

/-- The windows of row block `i 0` add to element `(r, d)` the scaled updates of all tokens whose id is row `256 (i 0) + r`. -/
theorem windows_apply {w : IVec S11264 32} (hs : Sorted w) (i : grid0.Coords) (h2 : k0_cond2 i = 1#1)
    (hw : k0_chk1 i (loW (F := Ideal) i h2 (tableW w)) (hiW (F := Ideal) i h2 (tableW w))) (ids : Vec Ideal S1x11264 .i32)
    (hids : ∀ t : Fin 11264, ids (ix2 0 t) = w (Shape.Idx.ofFin t)) (es : Vec Ideal S1x11264 .f32)
    (e : Vec Ideal S11264x2560 .fp8e5m2) (acc : Vec Ideal S256x2560 .f32) (r : Fin 256) (d : Fin 2560) :
    windows (F := Ideal) i h2 (tableW w) hw ids es e acc (ix2 r d)
      = acc (ix2 r d) + ∑ t : Fin 11264, if (w (Shape.Idx.ofFin t)).toInt = ((256 * (i 0).val + r.val : ℕ) : ℤ) then es (ix2 0 t) * e (ix2 t d) else 0 := by
  have h40 := loW_isInt (F := Ideal) w i h2
  have h43 := hiW_isInt (F := Ideal) w i h2
  have hle := count_mono w (Nat.le_succ (i 0).val)
  have hhi := count_le w ((i 0).val + 1)
  unfold windows
  rw [winAcc_apply h40 h43 hle hhi i hw h2 ids es e acc r d _ le_rfl, trips_windows h40 h43 hle hhi]
  refine congrArg (acc (ix2 r d) + ·) ?_
  have hsum : (∑ t : Fin 11264, if (w (Shape.Idx.ofFin t)).toInt = ((256 * (i 0).val + r.val : ℕ) : ℤ) then es (ix2 0 t) * e (ix2 t d) else 0)
      = ∑ t ∈ Finset.range 11264, term ids es e (256 * (i 0).val + r.val) d t := by
    rw [Finset.sum_range]
    refine Finset.sum_congr rfl fun t _ => ?_
    unfold term
    rw [dif_pos t.isLt, hids]
  rw [hsum]
  have hz : ∀ t, term ids es e (256 * (i 0).val + r.val) d t ≠ 0 → count w (i 0).val ≤ t ∧ t < count w ((i 0).val + 1) := fun t ht => by
    unfold term at ht
    split at ht
    · next h =>
      split at ht
      · next h' =>
        rw [hids] at h'
        have h1 := lt_count_iff hs (i 0).val ⟨t, h⟩
        have h2 := lt_count_iff hs ((i 0).val + 1) ⟨t, h⟩
        have := r.isLt
        rw [h'] at h1 h2
        push_cast at h1 h2
        omega
      · exact absurd rfl ht
    · exact absurd rfl ht
  have hb := base_le (count w (i 0).val)
  have hn : count w (i 0).val < count w ((i 0).val + 1) → count w ((i 0).val + 1) ≤ base (count w (i 0).val) + 256 * nWin (count w (i 0).val) (count w ((i 0).val + 1)) := fun h => by
    unfold nWin; rw [if_pos h]; omega
  rw [← Finset.sum_filter_ne_zero (s := Finset.range 11264), ← Finset.sum_filter_ne_zero (s := Finset.Ico _ _)]
  refine Finset.sum_congr (Finset.ext fun t => ?_) fun _ _ => rfl
  simp only [Finset.mem_filter, Finset.mem_Ico, Finset.mem_range]
  refine and_congr_left fun ht => ?_
  have h := hz t ht
  have := hn (by omega)
  omega

end Cert.Proof.KI
-- ==== Proof.Value.Inputs.lean ====
/-
  The kernel's input blocks, read off the arguments: the host's reshapes and the transpose of the scales undone.
-/
module

public import proofs.«01_k».proof.Proof.Value.Windows
public import proofs.«01_k».proof.Proof.KI.Run
public import Idealize.ShloMosaic.Lib.StableHlo.RunRead
public import Idealize.ShloMosaic.Lib.Pipeline.Value

@[expose] public section

set_option maxRecDepth 16384

noncomputable section

namespace Cert.Proof.KI

open Cert.KernelIdeal Cert.KernelIdeal.Gen
open Idealize.ShloMosaic Idealize.ShloMosaic.TcCoe Idealize.ShloMosaic.Pipeline

/-- The gradients `[22, 512, 32000]`, their scales, the activations, their scales, the encoded updates, their scales,
    and the accumulator, as core `c` holds them at launch. -/
abbrev gOf (m : (ℓ : Loc nD τ sig) → Buf (Elt Ideal) ℓ) (c : Dev nD) : Vec Ideal S22x512x32000 .fp8e5m2 := m ((c : Thread nD τ).loc main_arg0)
abbrev sOf (m : (ℓ : Loc nD τ sig) → Buf (Elt Ideal) ℓ) (c : Dev nD) : Vec Ideal S22x512x250 .f32 := m ((c : Thread nD τ).loc main_arg1)
abbrev xOf (m : (ℓ : Loc nD τ sig) → Buf (Elt Ideal) ℓ) (c : Dev nD) : Vec Ideal S22x512x2560 .fp8e4m3 := m ((c : Thread nD τ).loc main_arg2)
abbrev xsOf (m : (ℓ : Loc nD τ sig) → Buf (Elt Ideal) ℓ) (c : Dev nD) : Vec Ideal S22x512 .f32 := m ((c : Thread nD τ).loc main_arg3)
abbrev esOf (m : (ℓ : Loc nD τ sig) → Buf (Elt Ideal) ℓ) (c : Dev nD) : Vec Ideal S11264 .f32 := m ((c : Thread nD τ).loc main_arg5)
abbrev accOf (m : (ℓ : Loc nD τ sig) → Buf (Elt Ideal) ℓ) (c : Dev nD) : Vec Ideal S32000x2560 .f32 := m ((c : Thread nD τ).loc main_arg7)

section Host
variable (W : Valuation τ sig (Elt Ideal))

theorem host0 : StableHlo.after (hostOps0 (F := Ideal)) W (Proc.devRef .tc main_v0)
    = shapeCast S11264x32000 (W (Proc.devRef .tc main_arg0) : Vec Ideal S22x512x32000 .fp8e5m2) shapeCasts_S22x512x32000_S11264x32000 := by
  after_reads_simp
  rfl
theorem host3 : StableHlo.after (hostOps0 (F := Ideal)) W (Proc.devRef .tc main_v3)
    = shapeCast S125x2x11264 (transpose S250x11264 [1, 0]
        (shapeCast S11264x250 (W (Proc.devRef .tc main_arg1) : Vec Ideal S22x512x250 .f32) shapeCasts_S22x512x250_S11264x250) transposes_S11264x250_S250x11264_1_0)
        shapeCasts_S250x11264_S125x2x11264 := by
  after_reads_simp
  rfl
theorem host4 : StableHlo.after (hostOps0 (F := Ideal)) W (Proc.devRef .tc main_v4)
    = shapeCast S11264x2560 (W (Proc.devRef .tc main_arg2) : Vec Ideal S22x512x2560 .fp8e4m3) shapeCasts_S22x512x2560_S11264x2560 := by
  after_reads_simp
  rfl
theorem host5 : StableHlo.after (hostOps0 (F := Ideal)) W (Proc.devRef .tc main_v5)
    = shapeCast S1x11264 (W (Proc.devRef .tc main_arg3) : Vec Ideal S22x512 .f32) shapeCasts_S22x512_S1x11264 := by
  after_reads_simp
  rfl
theorem host6 : StableHlo.after (hostOps0 (F := Ideal)) W (Proc.devRef .tc main_v6)
    = shapeCast S1x11264 (W (Proc.devRef .tc main_arg6) : IVec S11264 32) shapeCasts_S11264_S1x11264 := by
  after_reads_simp
  rfl
theorem host7 : StableHlo.after (hostOps0 (F := Ideal)) W (Proc.devRef .tc main_v7)
    = shapeCast S1x11264 (W (Proc.devRef .tc main_arg5) : Vec Ideal S11264 .f32) shapeCasts_S11264_S1x11264 := by
  after_reads_simp
  rfl
end Host

/-- Token `t`'s batch and position. -/
abbrev tb (t : Fin 11264) : Fin 22 := ⟨t.val / 512, by omega⟩
abbrev ts (t : Fin 11264) : Fin 512 := ⟨t.val % 512, by omega⟩

theorem cast0 (g : Vec Ideal S22x512x32000 .fp8e5m2) (t : Fin 11264) (v : Fin 32000) :
    shapeCast S11264x32000 g shapeCasts_S22x512x32000_S11264x32000 (ix2 t v) = g (ix3 (tb t) (ts t) v) := by
  pointwise
theorem cast4 (g : Vec Ideal S22x512x2560 .fp8e4m3) (t : Fin 11264) (v : Fin 2560) :
    shapeCast S11264x2560 g shapeCasts_S22x512x2560_S11264x2560 (ix2 t v) = g (ix3 (tb t) (ts t) v) := by
  pointwise
theorem cast5 (g : Vec Ideal S22x512 .f32) (t : Fin 11264) :
    shapeCast S1x11264 g shapeCasts_S22x512_S1x11264 (ix2 0 t) = g (ix2 (tb t) (ts t)) := by
  pointwise
theorem cast67 {e : EltTy} (g : Vec Ideal S11264 e) (t : Fin 11264) :
    shapeCast S1x11264 g shapeCasts_S11264_S1x11264 (ix2 0 t) = g (ix1 t) := by
  pointwise
theorem cast3 (s : Vec Ideal S22x512x250 .f32) (p : Fin 125) (h : Fin 2) (t : Fin 11264) :
    shapeCast S125x2x11264 (transpose S250x11264 [1, 0] (shapeCast S11264x250 s shapeCasts_S22x512x250_S11264x250) transposes_S11264x250_S250x11264_1_0)
        shapeCasts_S250x11264_S125x2x11264 (ix3 p h t) = s (ix3 (tb t) (ts t) ⟨2 * p.val + h.val, by omega⟩) := by
  pointwise
  exact congrArg s (congrArg (ix3 (tb t) (ts t)) (Fin.ext (by show p.val * 2 + h.val = 2 * p.val + h.val; omega)))

variable (m : (ℓ : Loc nD τ sig) → Buf (Elt Ideal) ℓ) (c : Dev nD)

/-- A point's row block and slab. -/
abbrev pblk (t : Fin (cfgA m).N) : Fin 125 := ⟨t.val / 4 % 125, Nat.mod_lt _ (by decide)⟩
abbrev pslab (t : Fin (cfgA m).N) : Fin 4 := ⟨t.val % 4, Nat.mod_lt _ (by decide)⟩
/-- Token `x` of slab `b`, and row `r` of row block `p`. -/
abbrev tokOf (b : Fin 4) (x : Fin 2816) : Fin 11264 := ⟨2816 * b.val + x.val, by omega⟩
abbrev rowOf (p : Fin 125) (r : Fin 256) : Fin 32000 := ⟨256 * p.val + r.val, by omega⟩

/-- The two words the index maps are written with. -/
theorem word0 (t : Fin (cfgA m).N) : (BitVec.ofNat 32 (grid0.coords t 0).val).toNat = t.val / 4 % 125 := by
  rw [BitVec.toNat_ofNat, coord0 t]; omega
theorem word1 (t : Fin (cfgA m).N) : (BitVec.ofNat 32 (grid0.coords t 1).val).toNat = t.val % 4 := by
  rw [BitVec.toNat_ofNat, coord1 t]; omega

/-- The gradients' block. -/
theorem iblk0 (t : Fin (cfgA m).N) (x : Fin 2816) (r : Fin 256) :
    iblk m c 0 t (ix2 x r) = gOf m c (ix3 (tb (tokOf (pslab m t) x)) (ts (tokOf (pslab m t) x)) (rowOf (pblk m t) r)) := by
  have e : iblk m c 0 t (ix2 x r) = V m c main_v0 ((((cfgA m).win 0).rect t).emb (ix2 x r)) := rfl
  have ei : (((cfgA m).win 0).rect t).emb (ix2 x r) = (ix2 (tokOf (pslab m t) x) (rowOf (pblk m t) r) : S11264x32000.Idx) := by
    funext a
    apply Fin.ext
    refine (Window.rect_emb_val ((cfgA m).win 0) t _ a).trans ?_
    match a with
    | ⟨0, _⟩ =>
      show (BitVec.ofNat 32 (grid0.coords t 1).val).toNat * 2816 + x.val = 2816 * (t.val % 4) + x.val
      rw [word1 m t]
      omega
    | ⟨1, _⟩ =>
      show (BitVec.ofNat 32 (grid0.coords t 0).val).toNat * 256 + r.val = 256 * (t.val / 4 % 125) + r.val
      rw [word0 m t]
      omega
  rw [e, ei]
  exact (congrFun (host0 (V₀ m c)) _).trans (cast0 _ _ _)

/-- The gradients' scales' block. -/
theorem iblk1 (t : Fin (cfgA m).N) (h : Fin 2) (x : Fin 2816) :
    iblk m c 1 t (ix3 0 h x) = sOf m c (ix3 (tb (tokOf (pslab m t) x)) (ts (tokOf (pslab m t) x)) ⟨2 * (pblk m t).val + h.val, by omega⟩) := by
  have e : iblk m c 1 t (ix3 0 h x) = V m c main_v3 ((((cfgA m).win 1).rect t).emb (ix3 0 h x)) := rfl
  have ei : (((cfgA m).win 1).rect t).emb (ix3 0 h x) = (ix3 (pblk m t) h (tokOf (pslab m t) x) : S125x2x11264.Idx) := by
    funext a
    apply Fin.ext
    refine (Window.rect_emb_val ((cfgA m).win 1) t _ a).trans ?_
    match a with
    | ⟨0, _⟩ =>
      show (BitVec.ofNat 32 (grid0.coords t 0).val).toNat * 1 + 0 = t.val / 4 % 125
      rw [word0 m t]
      omega
    | ⟨1, _⟩ =>
      show 0 * 2 + h.val = h.val
      omega
    | ⟨2, _⟩ =>
      show (BitVec.ofNat 32 (grid0.coords t 1).val).toNat * 2816 + x.val = 2816 * (t.val % 4) + x.val
      rw [word1 m t]
      omega
  rw [e, ei]
  exact (congrFun (host3 (V₀ m c)) _).trans (cast3 _ _ _ _)

/-- The activations' scales' block. -/
theorem iblk2 (t : Fin (cfgA m).N) (x : Fin 2816) :
    iblk m c 2 t (ix2 0 x) = xsOf m c (ix2 (tb (tokOf (pslab m t) x)) (ts (tokOf (pslab m t) x))) := by
  have e : iblk m c 2 t (ix2 0 x) = V m c main_v5 ((((cfgA m).win 2).rect t).emb (ix2 0 x)) := rfl
  have ei : (((cfgA m).win 2).rect t).emb (ix2 0 x) = (ix2 0 (tokOf (pslab m t) x) : S1x11264.Idx) := by
    funext a
    apply Fin.ext
    refine (Window.rect_emb_val ((cfgA m).win 2) t _ a).trans ?_
    match a with
    | ⟨0, _⟩ =>
      show 0 * 1 + 0 = 0
      omega
    | ⟨1, _⟩ =>
      show (BitVec.ofNat 32 (grid0.coords t 1).val).toNat * 2816 + x.val = 2816 * (t.val % 4) + x.val
      rw [word1 m t]
      omega
  rw [e, ei]
  exact (congrFun (host5 (V₀ m c)) _).trans (cast5 _ _)

/-- The activations, staged whole. -/
theorem iblk3 (t : Fin (cfgA m).N) (q : Fin 11264) (d : Fin 2560) :
    iblk m c 3 t (ix2 q d) = xOf m c (ix3 (tb q) (ts q) d) := by
  have e : iblk m c 3 t (ix2 q d) = V m c main_v4 ((((cfgA m).win 3).rect t).emb (ix2 q d)) := rfl
  have ei : (((cfgA m).win 3).rect t).emb (ix2 q d) = (ix2 q d : S11264x2560.Idx) := by
    funext a
    apply Fin.ext
    refine (Window.rect_emb_val ((cfgA m).win 3) t _ a).trans ?_
    match a with
    | ⟨0, _⟩ =>
      show 0 * 11264 + q.val = q.val
      omega
    | ⟨1, _⟩ =>
      show 0 * 2560 + d.val = d.val
      omega
  rw [e, ei]
  exact (congrFun (host4 (V₀ m c)) _).trans (cast4 _ _ _)

/-- The ids, staged whole. -/
theorem iblk4 (t : Fin (cfgA m).N) (q : Fin 11264) :
    iblk m c 4 t (ix2 0 q) = idsOf m c (ix1 q) := by
  have e : iblk m c 4 t (ix2 0 q) = V m c main_v6 ((((cfgA m).win 4).rect t).emb (ix2 0 q)) := rfl
  have ei : (((cfgA m).win 4).rect t).emb (ix2 0 q) = (ix2 0 q : S1x11264.Idx) := by
    funext a
    apply Fin.ext
    refine (Window.rect_emb_val ((cfgA m).win 4) t _ a).trans ?_
    match a with
    | ⟨0, _⟩ =>
      show 0 * 1 + 0 = 0
      omega
    | ⟨1, _⟩ =>
      show 0 * 11264 + q.val = q.val
      omega
  rw [e, ei]
  exact (congrFun (host6 (V₀ m c)) _).trans (cast67 _ _)

/-- The updates' scales, staged whole. -/
theorem iblk5 (t : Fin (cfgA m).N) (q : Fin 11264) :
    iblk m c 5 t (ix2 0 q) = esOf m c (ix1 q) := by
  have e : iblk m c 5 t (ix2 0 q) = V m c main_v7 ((((cfgA m).win 5).rect t).emb (ix2 0 q)) := rfl
  have ei : (((cfgA m).win 5).rect t).emb (ix2 0 q) = (ix2 0 q : S1x11264.Idx) := by
    funext a
    apply Fin.ext
    refine (Window.rect_emb_val ((cfgA m).win 5) t _ a).trans ?_
    match a with
    | ⟨0, _⟩ =>
      show 0 * 1 + 0 = 0
      omega
    | ⟨1, _⟩ =>
      show 0 * 11264 + q.val = q.val
      omega
  rw [e, ei]
  exact (congrFun (host7 (V₀ m c)) _).trans (cast67 _ _)

/-- The accumulator's block. -/
theorem iblk6 (t : Fin (cfgA m).N) (r : Fin 256) (d : Fin 2560) :
    iblk m c 6 t (ix2 r d) = accOf m c (ix2 (rowOf (pblk m t) r) d) := by
  have e : iblk m c 6 t (ix2 r d) = V m c main_arg7 ((((cfgA m).win 6).rect t).emb (ix2 r d)) := rfl
  have ei : (((cfgA m).win 6).rect t).emb (ix2 r d) = (ix2 (rowOf (pblk m t) r) d : S32000x2560.Idx) := by
    funext a
    apply Fin.ext
    refine (Window.rect_emb_val ((cfgA m).win 6) t _ a).trans ?_
    match a with
    | ⟨0, _⟩ =>
      show (BitVec.ofNat 32 (grid0.coords t 0).val).toNat * 256 + r.val = 256 * (t.val / 4 % 125) + r.val
      rw [word0 m t]
      omega
    | ⟨1, _⟩ =>
      show 0 * 2560 + d.val = d.val
      omega
  rw [e, ei]
  exact congrFun (V_arg m main_arg7 (by decide) c) _

end Cert.Proof.KI
-- ==== Proof.Value.Array.lean ====
/-
  The kernel's result at one element: the accumulator's element, plus the sum over all tokens of the scaled gradient
  times the activation, plus the scaled updates of the tokens whose id is the element's row.
-/
module

public import proofs.«01_k».proof.Proof.Value.Inputs
public import Idealize.ShloMosaic.Lib.Pipeline.ValueKit.Geometry
public import Idealize.ShloMosaic.Lib.Pipeline.ValueKit.Acc

@[expose] public section

set_option maxRecDepth 16384

noncomputable section

namespace Cert.Proof.KI

open Cert.KernelIdeal Cert.KernelIdeal.Gen
open Idealize.ShloMosaic Idealize.ShloMosaic.TcCoe Idealize.ShloMosaic.Pipeline

variable (m : (ℓ : Loc nD τ sig) → Buf (Elt Ideal) ℓ) (c : Dev nD)

/-- Token `q`'s share of the product at row `v`, column `d`. -/
def prod (v : Fin 32000) (d : Fin 2560) (q : Fin 11264) : EReal :=
  gOf m c (ix3 (tb q) (ts q) v) * (sOf m c (ix3 (tb q) (ts q) ⟨v.val / 128, by omega⟩) * xsOf m c (ix2 (tb q) (ts q))) * xOf m c (ix3 (tb q) (ts q) d)

/-- Token `q`'s update at row `v`, column `d`: nothing where its id is another row. -/
def upd (v : Fin 32000) (d : Fin 2560) (q : Fin 11264) : EReal :=
  if (idsOf m c (ix1 q)).toInt = (v.val : ℤ) then esOf m c (ix1 q) * updOf m c (ix2 q d) else 0

/-- One slab's share. -/
def slabSum (v : Fin 32000) (d : Fin 2560) (b : Fin 4) : EReal := ∑ x : Fin 2816, prod m c v d (tokOf b x)

/-- A token's index, in the two ways it is written. -/
theorem ofFin_eq (q : Fin 11264) : (Shape.Idx.ofFin q : S11264.Idx) = ix1 q := by
  funext a
  match a with
  | ⟨0, _⟩ => rfl

/-- A point adds its slab's share to the block. -/
theorem slab_iblk (t : Fin (cfgA m).N) (prev : Vec Ideal S256x2560 .f32) (r : Fin 256) (d : Fin 2560) :
    slab (grid0.coords t) (iblk m c 0 t) (iblk m c 1 t) (iblk m c 2 t) (iblk m c 3 t) prev (ix2 r d)
      = prev (ix2 r d) + slabSum m c (rowOf (pblk m t) r) d (pslab m t) := by
  refine (slab_apply (grid0.coords t) (iblk m c 0 t) (iblk m c 1 t) (iblk m c 2 t) (iblk m c 3 t) prev r d (pslab m t) (coord1 t)).trans ?_
  refine congrArg (prev (ix2 r d) + ·) (Finset.sum_congr rfl fun x _ => ?_)
  refine (congrArg₂ (fun a b : EReal => a * b) (congrArg₂ (fun a b : EReal => a * b) (iblk0 m c t x r) (congrArg₂ (fun a b : EReal => a * b) (iblk1 m c t (half r) x) (iblk2 m c t x)))
    (iblk3 m c t (tokOf (pslab m t) x) d)).trans ?_
  unfold prod
  rw [show (⟨2 * (pblk m t).val + (half r).val, by omega⟩ : Fin 250) = ⟨(rowOf (pblk m t) r).val / 128, by omega⟩ from
    Fin.ext (by show 2 * (pblk m t).val + r.val / 128 = (256 * (pblk m t).val + r.val) / 128; omega)]

/-- After a row block's first point: the accumulator and the first slab's share. -/
theorem acc_first (t : Fin (cfgA m).N) (h : t.val % 4 = 0) (r : Fin 256) (d : Fin 2560) :
    accAt m c t.val t.isLt (ix2 r d) = accOf m c (ix2 (rowOf (pblk m t) r) d) + slabSum m c (rowOf (pblk m t) r) d (pslab m t) := by
  rw [accAt_first m c t h (iblk m c 6 t)]
  unfold stepAt
  rw [if_pos ((cond1_iff _).2 ((coord1 t).trans h))]
  exact (slab_iblk m c t (iblk m c 6 t) r d).trans (congrArg (· + _) (iblk6 m c t r d))

/-- A middle point adds its slab's share. -/
theorem acc_mid (t : Fin (cfgA m).N) (h : t.val % 4 ≠ 0) (h3 : t.val % 4 ≠ 3) (r : Fin 256) (d : Fin 2560) :
    accAt m c t.val t.isLt (ix2 r d)
      = accAt m c (t.val - 1) (Nat.lt_of_le_of_lt (Nat.sub_le _ _) t.isLt) (ix2 r d) + slabSum m c (rowOf (pblk m t) r) d (pslab m t) := by
  rw [accAt_next m c t (fun e => h (by rw [e]))]
  unfold stepAt
  rw [if_neg fun e => h ((coord1 t).symm.trans ((cond1_iff _).1 e)), dif_neg fun e => h3 ((coord1 t).symm.trans ((cond2_iff _).1 e))]
  exact slab_iblk m c t _ r d

/-- A row block's last point adds its slab's share and the updates of all tokens. -/
theorem acc_last (hs : Sorted (idsOf m c)) (t : Fin (cfgA m).N) (h3 : t.val % 4 = 3) (r : Fin 256) (d : Fin 2560) :
    accAt m c t.val t.isLt (ix2 r d)
      = accAt m c (t.val - 1) (Nat.lt_of_le_of_lt (Nat.sub_le _ _) t.isLt) (ix2 r d) + slabSum m c (rowOf (pblk m t) r) d (pslab m t)
        + ∑ q : Fin 11264, upd m c (rowOf (pblk m t) r) d q := by
  rw [accAt_next m c t (fun e => by rw [e] at h3; exact absurd h3 (by decide))]
  unfold stepAt
  have h2 : k0_cond2 (grid0.coords t) = 1#1 := (cond2_iff _).2 ((coord1 t).trans h3)
  rw [if_neg fun e => by have := (coord1 t).symm.trans ((cond1_iff _).1 e); omega, dif_pos h2]
  refine (windows_apply hs (grid0.coords t) h2 (chk (idsOf m c) (grid0.coords t) h2) (iblk m c 4 t)
    (fun q => (iblk4 m c t q).trans (congrArg _ (ofFin_eq q).symm)) (iblk m c 5 t) (updOf m c) _ r d).trans ?_
  refine congrArg₂ (· + ·) (slab_iblk m c t _ r d) (Finset.sum_congr rfl fun q _ => ?_)
  unfold upd
  rw [ofFin_eq, show (256 * (grid0.coords t 0).val + r.val : ℕ) = (rowOf (pblk m t) r).val from by rw [coord0 t]]
  exact if_congr Iff.rfl (congrArg (· * _) (iblk5 m c t q)) rfl

/-- The kernel's value at row `v`, column `d`. -/
def kval (v : Fin 32000) (d : Fin 2560) : EReal :=
  accOf m c (ix2 v d) + ∑ q : Fin 11264, prod m c v d q + ∑ q : Fin 11264, upd m c v d q

/-- The four slabs hold each token once. -/
theorem sum_slabs (f : Fin 11264 → EReal) :
    ∑ q : Fin 11264, f q = ∑ x, f (tokOf 0 x) + ∑ x, f (tokOf 1 x) + ∑ x, f (tokOf 2 x) + ∑ x, f (tokOf 3 x) := by
  rw [← Fin.sum_univ_four (fun b => ∑ x, f (tokOf b x)), ← Fin.sum_mul_add_fin (L := 11264) 4 2816 f]
  exact Finset.sum_congr rfl fun b _ => Finset.sum_congr rfl fun x _ => congrArg f (Fin.ext (by show b.val * 2816 + x.val = 2816 * b.val + x.val; omega))

/-- What a row block's last point leaves is the kernel's value. -/
theorem acc_total (hs : Sorted (idsOf m c)) (t : Fin (cfgA m).N) (h3 : t.val % 4 = 3) (r : Fin 256) (d : Fin 2560) :
    accAt m c t.val t.isLt (ix2 r d) = kval m c (rowOf (pblk m t) r) d := by
  have ht := t.isLt
  have e2 := acc_mid m c ⟨t.val - 1, by omega⟩ (by dsimp only; omega) (by dsimp only; omega) r d
  have e1 := acc_mid m c ⟨t.val - 1 - 1, by omega⟩ (by dsimp only; omega) (by dsimp only; omega) r d
  have e0 := acc_first m c ⟨t.val - 1 - 1 - 1, by omega⟩ (by dsimp only; omega) r d
  have p2 : pblk m ⟨t.val - 1, by omega⟩ = pblk m t := Fin.ext (by show (t.val - 1) / 4 % 125 = t.val / 4 % 125; omega)
  have p1 : pblk m ⟨t.val - 1 - 1, by omega⟩ = pblk m t := Fin.ext (by show (t.val - 1 - 1) / 4 % 125 = t.val / 4 % 125; omega)
  have p0 : pblk m ⟨t.val - 1 - 1 - 1, by omega⟩ = pblk m t := Fin.ext (by show (t.val - 1 - 1 - 1) / 4 % 125 = t.val / 4 % 125; omega)
  have s3 : pslab m t = 3 := Fin.ext h3
  have s2 : pslab m ⟨t.val - 1, by omega⟩ = 2 := Fin.ext (by show (t.val - 1) % 4 = 2; omega)
  have s1 : pslab m ⟨t.val - 1 - 1, by omega⟩ = 1 := Fin.ext (by show (t.val - 1 - 1) % 4 = 1; omega)
  have s0 : pslab m ⟨t.val - 1 - 1 - 1, by omega⟩ = 0 := Fin.ext (by show (t.val - 1 - 1 - 1) % 4 = 0; omega)
  rw [p2, s2] at e2
  rw [p1, s1] at e1
  rw [p0, s0] at e0
  rw [acc_last m c hs t h3 r d, s3, e2, e1, e0]
  unfold kval
  rw [sum_slabs (prod m c _ d)]
  unfold slabSum
  simp only [add_assoc]

/-- An index of a block, and of the array, by its coordinates. -/
theorem blk_idx (y : S256x2560.Idx) : ∃ (r : Fin 256) (d : Fin 2560), y = ix2 r d := ⟨y 0, y 1, eq_ix2 y⟩
theorem arr_idx (y : S32000x2560.Idx) : ∃ (v : Fin 32000) (d : Fin 2560), y = ix2 v d := ⟨y 0, y 1, eq_ix2 y⟩

/-- The array holds the kernel's value at an index. -/
def IsVal (i : S32000x2560.Idx) (x : EReal) : Prop := x = kval m c (i 0) (i 1)

/-- The kernel's result array, at an index. -/
theorem final_apply (hs : Sorted (idsOf m c)) (v : Fin 32000) (d : Fin 2560) :
    (finalA m c 7 : Vec Ideal S32000x2560 .f32) (ix2 v d) = kval m c v d := by
  have hemb (t : Fin (cfgA m).N) (r : Fin 256) (d : Fin 2560) :
      (((cfgA m).win 7).rect t).emb (ix2 r d) = (ix2 (rowOf (pblk m t) r) d : S32000x2560.Idx) := by
    funext a
    apply Fin.ext
    refine (Window.rect_emb_val ((cfgA m).win 7) t _ a).trans ?_
    match a with
    | ⟨0, _⟩ =>
      show (BitVec.ofNat 32 (grid0.coords t 0).val).toNat * 256 + r.val = 256 * (t.val / 4 % 125) + r.val
      rw [word0 m t]
      omega
    | ⟨1, _⟩ =>
      show 0 * 2560 + d.val = d.val
      omega
  refine (dats m 0 c).arrAt_forall_of_cover 7 (fun i x => IsVal m c i x) (fun t hf y => ?_) (fun i => ?_) (ix2 v d)
  · obtain ⟨r, d, rfl⟩ := blk_idx y
    have h := acc_total m c hs t ((flush7 m t).1 hf) r d
    have he : IsVal m c (ix2 (rowOf (pblk m t) r) d) (accAt m c t.val t.isLt (ix2 r d)) := h
    rw [← hemb t r d, ← after7 m c t] at he
    exact he
  · obtain ⟨v, d, rfl⟩ := arr_idx i
    have hv : 4 * (v.val / 256) + 3 < (cfgA m).N := by show _ < 500; omega
    refine ⟨⟨4 * (v.val / 256) + 3, hv⟩, (flush7 m _).2 (by show (4 * (v.val / 256) + 3) % 4 = 3; omega), ?_⟩
    refine Finset.mem_map.2 ⟨(ix2 ⟨v.val % 256, by omega⟩ d : S256x2560.Idx), Finset.mem_univ _, ?_⟩
    refine (hemb _ _ _).trans ?_
    congr 1
    refine Fin.ext ?_
    show 256 * ((4 * (v.val / 256) + 3) / 4 % 125) + v.val % 256 = v.val
    omega

end Cert.Proof.KI
-- ==== Proof.Value.Scatter.lean ====
/-
  A scatter-add of rows, read at one element, at any sizes: the operand's element plus the updates of the rows whose
  index is the element's row.
-/
module

public import Idealize.ShloMosaic.Lib.Pointwise
public import Idealize.ShloMosaic.Lib.Routing.OpsPair

@[expose] public section

noncomputable section

namespace Cert.Proof

open Idealize.ShloMosaic

/-- Where a scatter of `N` rows into a matrix puts element `e` of row `q`: at `(r, k)` exactly when the row's index is
    `r` and `e` is `k`. -/
theorem lands_row {R C N w : Nat} (d : ScatterDims ⟨2, ![R, C]⟩ ⟨2, ![N, 1]⟩ ⟨2, ![N, C]⟩) (huw : d.updateWindowDims = [1])
    (hiw : d.insertedWindowDims = [0]) (hsd : d.scatterDimsToOperandDims = [0]) (hivd : d.indexVectorDim = 1)
    (idx : IVec ⟨2, ![N, 1]⟩ w) (q : Fin N) (e : Fin C) (r : Fin R) (k : Fin C) :
    d.resultIdx? (ix2 q e) idx = some (ix2 r k) ↔ (idx (ix2 q (0 : Fin 1))).toInt = (r.val : Int) ∧ e = k := by
  have hm : (0 : Fin 2) ∈ d.scatterDimsToOperandDims := by rw [hsd]; exact List.mem_singleton.2 rfl
  have hkept : d.sKept = [1] := by
    show (⟨2, ![R, C]⟩ : Shape).kept d.insertedWindowDims = _
    rw [hiw]
    rfl
  have get {l : List (Fin 2)} {x : Fin 2} (hl : l = [x]) (n : ℕ) (h : n < l.length) : l[n]'h = x := by
    subst hl
    exact List.getElem_singleton h
  have hwin0 : d.window (ix2 q e) 0 = 0 := by
    unfold ScatterDims.window
    rw [dif_neg fun h => (of_decide_eq_true (List.mem_filter.1 h).2) (by rw [hiw]; exact List.mem_singleton.2 rfl)]
  have hwin1 : d.window (ix2 q e) 1 = e.val := by
    unfold ScatterDims.window
    rw [dif_pos (by rw [hkept]; exact List.mem_singleton.2 rfl), get huw]
    rfl
  have hstart1 : d.start (ix2 q e) idx 1 = 0 := by
    unfold ScatterDims.start
    rw [dif_neg fun h => by rw [hsd] at h; exact absurd (List.mem_singleton.1 h) (by decide : (1 : Fin 2) ≠ 0)]
  have hstart0 : d.start (ix2 q e) idx 0 = (idx (ix2 q (0 : Fin 1))).toInt := by
    unfold ScatterDims.start
    rw [dif_pos hm]
    have hu : d.uScatter = [0] := by
      show (⟨2, ![N, C]⟩ : Shape).kept d.updateWindowDims = _
      rw [huw]
      rfl
    have hsi : d.siIdx (ix2 q e) ⟨d.scatterDimsToOperandDims.idxOf 0, List.idxOf_lt_length_iff.2 hm⟩ = ix2 q (0 : Fin 1) := by
      funext b
      match b with
      | ⟨0, _⟩ =>
        apply Fin.ext
        unfold ScatterDims.siIdx
        rw [dif_neg (by rw [hivd]; exact Nat.zero_ne_one)]
        unfold ScatterDims.siCoord
        simp only [Fin.val_cast]
        rw [get hu]
        rfl
      | ⟨1, _⟩ => exact Subsingleton.elim (α := Fin 1) _ _
    rw [hsi]
  rw [Routing.resultIdx?_eq_some]
  constructor
  · intro h
    have h0 : _ = (r.val : Int) := h 0
    have h1 : _ = (k.val : Int) := h 1
    rw [hstart0, hwin0] at h0
    rw [hstart1, hwin1] at h1
    exact ⟨by omega, Fin.ext (by omega)⟩
  · rintro ⟨h, rfl⟩ a
    match a with
    | ⟨0, _⟩ =>
      show d.start (ix2 q e) idx 0 + (d.window (ix2 q e) 0 : Int) = (r.val : Int)
      rw [hstart0, hwin0]
      omega
    | ⟨1, _⟩ =>
      show d.start (ix2 q e) idx 1 + (d.window (ix2 q e) 1 : Int) = (e.val : Int)
      rw [hstart1, hwin1]
      omega

/-- The scatter-add of `N` rows read at `(r, k)`. -/
theorem scatterAdd_row {R C N w : Nat} (d : ScatterDims ⟨2, ![R, C]⟩ ⟨2, ![N, 1]⟩ ⟨2, ![N, C]⟩) (huw : d.updateWindowDims = [1])
    (hiw : d.insertedWindowDims = [0]) (hsd : d.scatterDimsToOperandDims = [0]) (hivd : d.indexVectorDim = 1)
    (x : Vec Ideal ⟨2, ![R, C]⟩ .f32) (idx : IVec ⟨2, ![N, 1]⟩ w) (upd : Vec Ideal ⟨2, ![N, C]⟩ .f32) (r : Fin R) (k : Fin C) :
    Host.scatterAdd (F := Ideal) (φ := .f32) d x idx upd (ix2 r k)
      = ((x (ix2 r k) : EReal) + ∑ q : Fin N, if (idx (ix2 q (0 : Fin 1))).toInt = (r.val : Int) then (upd (ix2 q k) : EReal) else 0 : EReal) := by
  show (x (ix2 r k) : EReal) + ∑ j ∈ Finset.univ.filter (fun j => d.resultIdx? j idx = some (ix2 r k)), (upd j : EReal) = _
  refine congrArg (fun z : EReal => (x (ix2 r k) : EReal) + z) ?_
  rw [Finset.sum_filter, sum_idx2]
  refine Finset.sum_congr rfl fun q _ => ?_
  simp only [lands_row d huw hiw hsd hivd]
  by_cases h : (idx (ix2 q (0 : Fin 1))).toInt = (r.val : Int)
  · simp only [h, true_and, if_true]
    exact (Finset.sum_ite_eq' Finset.univ k fun e => (upd (ix2 q e) : EReal)).trans (if_pos (Finset.mem_univ _))
  · simp only [h, false_and, if_false]
    exact Finset.sum_const_zero

end Cert.Proof
-- ==== Proof.Value.Reference.lean ====
/-
  The reference's result at one element: the accumulator's element, plus the product of the scaled gradients and the
  scaled activations over batches and positions, plus the scaled updates of the tokens whose id is the row.
-/
module

public import proofs.«01_k».proof.Proof.Value.Scatter
public import proofs.«01_k».proof.Proof.Gen.ReferenceIdeal.Frame
public import Idealize.ShloMosaic.Lib.StableHlo.RunRead
public import Idealize.ShloMosaic.Lib.Pipeline.Value
public import Idealize.ShloMosaic.Lib.Pipeline.ValueKit.Geometry

@[expose] public section

set_option maxRecDepth 16384

noncomputable section

namespace Cert.Proof.RI

open Cert.ReferenceIdeal Cert.ReferenceIdeal.Gen
open Idealize.ShloMosaic Idealize.ShloMosaic.TcCoe Idealize.ShloMosaic.Pipeline Idealize.SL.Sem

/-- The scaled gradients. -/
def gs (g : FVec Ideal S22x512x32000 .bf16) (s : FVec Ideal S22x512x250 .f32) : FVec Ideal S22x512x32000 .bf16 :=
  shapeCast S22x512x32000 (mulf (shapeCast S22x512x250x128 g shapeCasts_S22x512x32000_S22x512x250x128)
    (broadcastInDim S22x512x250x128 ![0, 1, 2, 3] bcast_S22x512x250x1_S22x512x250x128_0_1_2_3
      (broadcastInDim S22x512x250x1 ![0, 1, 2] bcast_S22x512x250_S22x512x250x1_0_1_2 (truncf .bf16 s bitsLt_bf16_f32 : FVec Ideal S22x512x250 .bf16))))
    shapeCasts_S22x512x250x128_S22x512x32000

/-- The scaled activations. -/
def xsc (x : FVec Ideal S22x512x2560 .bf16) (xs : FVec Ideal S22x512 .f32) : FVec Ideal S22x512x2560 .bf16 :=
  mulf x (broadcastInDim S22x512x2560 ![0, 1, 2] bcast_S22x512x1_S22x512x2560_0_1_2
    (broadcastInDim S22x512x1 ![0, 1] bcast_S22x512_S22x512x1_0_1 (truncf .bf16 xs bitsLt_bf16_f32 : FVec Ideal S22x512 .bf16)))

/-- The scaled updates. -/
def esc (e : FVec Ideal S11264x2560 .f32) (es : FVec Ideal S11264 .f32) : FVec Ideal S11264x2560 .f32 :=
  mulf e (broadcastInDim S11264x2560 ![0, 1] bcast_S11264x1_S11264x2560_0_1 (broadcastInDim S11264x1 ![0] bcast_S11264_S11264x1_0 es))

/-- The product over batches and positions. -/
def dot (g : FVec Ideal S22x512x32000 .bf16) (x : FVec Ideal S22x512x2560 .bf16) : FVec Ideal S32000x2560 .f32 :=
  Host.dotGeneral dot_S22x512x32000_S22x512x2560_S32000x2560_01_01_2_2_n_n none g x

/-- The rows summed by id, onto zeros. -/
def seg (ids : IVec S11264 32) (e : FVec Ideal S11264x2560 .f32) : FVec Ideal S32000x2560 .f32 :=
  Host.scatterAdd (F := Ideal) (φ := .f32) scatter_S32000x2560_S11264x1_S11264x2560_1_0_0_1
    (broadcastInDim S32000x2560 ![] bcast_S_S32000x2560 (constant (F := Ideal) S_ .f32 0x00000000#32))
    (broadcastInDim S11264x1 ![0] bcast_S11264_S11264x1_0 ids) e

/-- The whole result. -/
def res (a : FVec Ideal S32000x2560 .f32) (g : FVec Ideal S22x512x32000 .bf16) (s : FVec Ideal S22x512x250 .f32) (x : FVec Ideal S22x512x2560 .bf16)
    (xs : FVec Ideal S22x512 .f32) (ids : IVec S11264 32) (e : FVec Ideal S11264x2560 .f32) (es : FVec Ideal S11264 .f32) : FVec Ideal S32000x2560 .f32 :=
  addf (addf a (dot (gs g s) (xsc x xs))) (seg ids (esc e es))

/-- The lines after the region, from what the arrays hold before them. -/
theorem tail_read (W : Valuation τ sig (Elt Ideal)) : StableHlo.after (hostOps1 (F := Ideal)) W (Proc.devRef .tc main_v19)
    = res (W (Proc.devRef .tc main_arg7)) (W (Proc.devRef .tc main_v0_0)) (W (Proc.devRef .tc main_arg1)) (W (Proc.devRef .tc main_v0_1))
        (W (Proc.devRef .tc main_arg3)) (W (Proc.devRef .tc main_arg6)) (W (Proc.devRef .tc main_v0_2)) (W (Proc.devRef .tc main_arg5)) := by
  after_reads_simp
  rfl

/-- A scaled gradient, read at one element: the scale is that of its group of 128 rows. -/
theorem gs_apply (g : FVec Ideal S22x512x32000 .bf16) (s : FVec Ideal S22x512x250 .f32) (b : Fin 22) (p : Fin 512) (v : Fin 32000) :
    gs g s (ix3 b p v) = ((g (ix3 b p v) : EReal) * s (ix3 b p ⟨v.val / 128, by omega⟩) : EReal) := by
  pointwise [gs]

/-- A scaled activation, read at one element. -/
theorem xsc_apply (x : FVec Ideal S22x512x2560 .bf16) (xs : FVec Ideal S22x512 .f32) (b : Fin 22) (p : Fin 512) (d : Fin 2560) :
    xsc x xs (ix3 b p d) = ((x (ix3 b p d) : EReal) * xs (ix2 b p) : EReal) := by
  pointwise [xsc]

/-- A scaled update, read at one element. -/
theorem esc_apply (e : FVec Ideal S11264x2560 .f32) (es : FVec Ideal S11264 .f32) (q : Fin 11264) (d : Fin 2560) :
    esc e es (ix2 q d) = ((e (ix2 q d) : EReal) * es (ix1 q) : EReal) := by
  pointwise [esc]

/-- The product at one element: the sum over batches and positions. -/
theorem dot_apply (g : FVec Ideal S22x512x32000 .bf16) (x : FVec Ideal S22x512x2560 .bf16) (v : Fin 32000) (d : Fin 2560) :
    dot g x (ix2 v d) = (∑ b : Fin 22, ∑ p : Fin 512, (g (ix3 b p v) : EReal) * x (ix3 b p d) : EReal) := by
  pointwise [dot]

/-- The rows summed by id, at one element: the sum over the tokens whose id is the row. -/
theorem seg_apply (ids : IVec S11264 32) (e : FVec Ideal S11264x2560 .f32) (v : Fin 32000) (d : Fin 2560) :
    seg ids e (ix2 v d) = (∑ q : Fin 11264, if (ids (ix1 q)).toInt = (v.val : Int) then (e (ix2 q d) : EReal) else 0 : EReal) := by
  refine (scatterAdd_row scatter_S32000x2560_S11264x1_S11264x2560_1_0_0_1 rfl rfl rfl rfl _ _ e v d).trans ?_
  have hz : (broadcastInDim S32000x2560 ![] bcast_S_S32000x2560 (constant (F := Ideal) S_ .f32 0x00000000#32) : FVec Ideal S32000x2560 .f32) (ix2 v d) = (0 : EReal) := by
    pointwise
  have hi (q : Fin 11264) : (broadcastInDim S11264x1 ![0] bcast_S11264_S11264x1_0 ids : IVec S11264x1 32) (ix2 q (0 : Fin 1)) = ids (ix1 q) := by
    pointwise
  refine (congrArg (fun z : EReal => z + _) hz).trans ((zero_add _).trans ?_)
  exact Finset.sum_congr rfl fun q _ => by rw [hi q]

end Cert.Proof.RI
-- ==== Proof.Value.ReferenceRun.lean ====
/-
  The reference's run: its decoded arrays are its arguments, so its result is `res` of the arguments.
-/
module

public import proofs.«01_k».proof.Proof.Value.Reference

@[expose] public section

set_option maxRecDepth 16384

noncomputable section

namespace Cert.Proof.RI

open Cert.ReferenceIdeal Cert.ReferenceIdeal.Gen
open Idealize.ShloMosaic Idealize.ShloMosaic.TcCoe Idealize.ShloMosaic.Pipeline Idealize.SL.Sem

variable (m : (ℓ : Loc nD τ sig) → Buf (Elt Ideal) ℓ) (ρ : Dev nD → PrngReg) (c : Dev nD)

/-- The region's one point. -/
abbrev pt : Fin cfg0.N := ⟨0, by decide⟩

/-- The block of each input window is its whole array. -/
theorem blk0 : iblk m c 0 pt = (m ((c : Thread nD τ).loc main_arg0) : Vec Ideal S22x512x32000 .fp8e5m2) :=
  funext fun y => congrArg (m ((c : Thread nD τ).loc main_arg0) : S22x512x32000.Idx → _)
    (funext fun a => Fin.ext (Window.rect_emb_val_of_index_zero (cfg0.win 0) pt a (by match a with | ⟨0, _⟩ => rfl | ⟨1, _⟩ => rfl | ⟨2, _⟩ => rfl) y))
theorem blk1 : iblk m c 1 pt = (m ((c : Thread nD τ).loc main_arg2) : Vec Ideal S22x512x2560 .fp8e4m3) :=
  funext fun y => congrArg (m ((c : Thread nD τ).loc main_arg2) : S22x512x2560.Idx → _)
    (funext fun a => Fin.ext (Window.rect_emb_val_of_index_zero (cfg0.win 1) pt a (by match a with | ⟨0, _⟩ => rfl | ⟨1, _⟩ => rfl | ⟨2, _⟩ => rfl) y))
theorem blk2 : iblk m c 2 pt = (m ((c : Thread nD τ).loc main_arg4) : Vec Ideal S11264x2560 .fp8e5m2) :=
  funext fun y => congrArg (m ((c : Thread nD τ).loc main_arg4) : S11264x2560.Idx → _)
    (funext fun a => Fin.ext (Window.rect_emb_val_of_index_zero (cfg0.win 2) pt a (by match a with | ⟨0, _⟩ => rfl | ⟨1, _⟩ => rfl) y))

/-- What the body leaves is what it loads, a format change being the identity. -/
theorem out3 (x0 : Vec Ideal S22x512x32000 .fp8e5m2) (x1 : Vec Ideal S22x512x2560 .fp8e4m3) (x2 : Vec Ideal S11264x2560 .fp8e5m2) :
    (out0_3 (F := Ideal) x0 x1 x2 : S22x512x32000.Idx → EReal) = x0 := by
  unfold out0_3
  rw [View.canon_cons_unit_lit _ _ _ (by decide), View.ld_unit_lit _ _ (by decide)]
  rfl
theorem out4 (x0 : Vec Ideal S22x512x32000 .fp8e5m2) (x1 : Vec Ideal S22x512x2560 .fp8e4m3) (x2 : Vec Ideal S11264x2560 .fp8e5m2) :
    (out0_4 (F := Ideal) x0 x1 x2 : S22x512x2560.Idx → EReal) = x1 := by
  unfold out0_4
  rw [View.canon_cons_unit_lit _ _ _ (by decide), View.ld_unit_lit _ _ (by decide)]
  rfl
theorem out5 (x0 : Vec Ideal S22x512x32000 .fp8e5m2) (x1 : Vec Ideal S22x512x2560 .fp8e4m3) (x2 : Vec Ideal S11264x2560 .fp8e5m2) :
    (out0_5 (F := Ideal) x0 x1 x2 : S11264x2560.Idx → EReal) = x2 := by
  unfold out0_5
  rw [View.canon_cons_unit_lit _ _ _ (by decide), View.ld_unit_lit _ _ (by decide)]
  rfl

/-- The decoded arrays after the region. -/
theorem arr3 : ((dats m 0 c).arrAt 3 cfg0.N : S22x512x32000.Idx → EReal) = (m ((c : Thread nD τ).loc main_arg0) : S22x512x32000.Idx → EReal) := by
  refine (dats m 0 c).arrAt_eq_of_after_last 3 pt (by decide +kernel) (m ((c : Thread nD τ).loc main_arg0) : S22x512x32000.Idx → EReal) fun j => ?_
  have e : ((dats m 0 c).after 3 pt : S22x512x32000.Idx → EReal) = (m ((c : Thread nD τ).loc main_arg0) : S22x512x32000.Idx → EReal) :=
    (after0_3 m c pt).trans ((out3 _ _ _).trans (blk0 m c))
  exact congrFun e j
theorem arr4 : ((dats m 0 c).arrAt 4 cfg0.N : S22x512x2560.Idx → EReal) = (m ((c : Thread nD τ).loc main_arg2) : S22x512x2560.Idx → EReal) := by
  refine (dats m 0 c).arrAt_eq_of_after_last 4 pt (by decide +kernel) (m ((c : Thread nD τ).loc main_arg2) : S22x512x2560.Idx → EReal) fun j => ?_
  have e : ((dats m 0 c).after 4 pt : S22x512x2560.Idx → EReal) = (m ((c : Thread nD τ).loc main_arg2) : S22x512x2560.Idx → EReal) :=
    (after0_4 m c pt).trans ((out4 _ _ _).trans (blk1 m c))
  exact congrFun e j
theorem arr5 : ((dats m 0 c).arrAt 5 cfg0.N : S11264x2560.Idx → EReal) = (m ((c : Thread nD τ).loc main_arg4) : S11264x2560.Idx → EReal) := by
  refine (dats m 0 c).arrAt_eq_of_after_last 5 pt (by decide +kernel) (m ((c : Thread nD τ).loc main_arg4) : S11264x2560.Idx → EReal) fun j => ?_
  have e : ((dats m 0 c).after 5 pt : S11264x2560.Idx → EReal) = (m ((c : Thread nD τ).loc main_arg4) : S11264x2560.Idx → EReal) :=
    (after0_5 m c pt).trans ((out5 _ _ _).trans (blk2 m c))
  exact congrFun e j

/-- The result, from the arguments as launched. -/
def rres : FVec Ideal S32000x2560 .f32 :=
  res (m ((c : Thread nD τ).loc main_arg7)) (m ((c : Thread nD τ).loc main_arg0) : S22x512x32000.Idx → EReal) (m ((c : Thread nD τ).loc main_arg1))
    (m ((c : Thread nD τ).loc main_arg2) : S22x512x2560.Idx → EReal) (m ((c : Thread nD τ).loc main_arg3)) (m ((c : Thread nD τ).loc main_arg6))
    (m ((c : Thread nD τ).loc main_arg4) : S11264x2560.Idx → EReal) (m ((c : Thread nD τ).loc main_arg5))

/-- The six windows are on six arrays. -/
theorem arr_inj : Function.Injective (Pipeline.arrRef spec0) := by decide

/-- What the result array holds after the lines after the region. -/
theorem tail_eq : Pipeline.afterTail₀ cfgs (dats m) 0 (V0 m) [hostOps1] c main_v19 = rres m c := by
  unfold Pipeline.afterTail₀
  refine (tail_read _).trans ?_
  have h3 := (Pipeline.withArrays_arr spec0 arr_inj c (V0 m c) (fun w => (dats m 0 c).arrAt w cfg0.N) 3).trans (arr3 m c)
  have h4 := (Pipeline.withArrays_arr spec0 arr_inj c (V0 m c) (fun w => (dats m 0 c).arrAt w cfg0.N) 4).trans (arr4 m c)
  have h5 := (Pipeline.withArrays_arr spec0 arr_inj c (V0 m c) (fun w => (dats m 0 c).arrAt w cfg0.N) 5).trans (arr5 m c)
  have hne (b : Ref sig .tc) (hb : ∀ w, Pipeline.arrRef spec0 w ≠ b) := Pipeline.withArrays_of_ne spec0 c (V0 m c) (fun w => (dats m 0 c).arrAt w cfg0.N) b hb
  have a1 := hne main_arg1 (by decide)
  have a3 := hne main_arg3 (by decide)
  have a5 := hne main_arg5 (by decide)
  have a6 := hne main_arg6 (by decide)
  have a7 := hne main_arg7 (by decide)
  unfold rres
  congr 1

/-- THE RUN: the result array ends at `rres`. -/
theorem run_value : θ_run (defs (F := Ideal)) (onTc (τ := τ) (main (F := Ideal))) ⟨m, fun _ => 0, ρ⟩
    (fun r => ∀ c : Dev nD, r.2.mem ((c.tc : Thread nD τ).loc main_v19) = rres m c) :=
  (θ_run _ _ _).mono (fun _ h c => ((h c).2 main_v19 (Pipeline.mem_restRefs_of main_v19 (by decide) (by decide))).trans (tail_eq m c)) (run_main m ρ)

end Cert.Proof.RI
-- ==== Proof.Equal.lean ====
/-
  The kernel's result is the reference's, at the ideal instance, for sorted ids.
-/
module

public import proofs.«01_k».proof.Defs
public import proofs.«01_k».proof.Proof.Value.Array
public import proofs.«01_k».proof.Proof.Value.ReferenceRun

@[expose] public section

set_option maxRecDepth 16384

noncomputable section

namespace Cert.Proof

open Idealize.ShloMosaic Idealize.ShloMosaic.TcCoe Idealize.SL.Sem

/-- The precondition's slices lie inside the ids. -/
theorem Pre.facts : Cert.Pre_ids_sorted.Facts where
  slices_S11264_S11263_0 := by decide
  slices_S11264_S11263_1 := by decide

/-- Neighbouring ids in order: all ids in order. -/
theorem sorted_of_adjacent (ids : IVec KernelIdeal.S11264 32)
    (h : ∀ i : Fin 11263, (ids (ix1 i.castSucc)).toInt ≤ (ids (ix1 i.succ)).toInt) : KI.Sorted ids := by
  have hm : Monotone fun p : Fin 11264 => (ids (ix1 p)).toInt := Fin.monotone_iff_le_succ.2 h
  intro p q hpq
  rw [KI.ofFin_eq, KI.ofFin_eq]
  exact hm hpq

/-- The precondition says that the ids are sorted. -/
theorem sorted_of_pre [Cert.Pre_ids_sorted.Facts] (a0 : FVec Ideal Pre_ids_sorted.S22x512x32000 .fp8e5m2) (a1 : FVec Ideal Pre_ids_sorted.S22x512x250 .f32)
    (a2 : FVec Ideal Pre_ids_sorted.S22x512x2560 .fp8e4m3) (a3 : FVec Ideal Pre_ids_sorted.S22x512 .f32)
    (a4 : FVec Ideal Pre_ids_sorted.S11264x2560 .fp8e5m2) (a5 : FVec Ideal Pre_ids_sorted.S11264 .f32) (ids : IVec Pre_ids_sorted.S11264 32)
    (a7 : FVec Ideal Pre_ids_sorted.S32000x2560 .f32)
    (h : Cert.Pre_ids_sorted.fn (F := Ideal) a0 a1 a2 a3 a4 a5 ids a7 = fun _ => 1#1) : KI.Sorted ids := by
  refine sorted_of_adjacent ids fun i => ?_
  have e : (Cert.Pre_ids_sorted.fn (F := Ideal) a0 a1 a2 a3 a4 a5 ids a7) (ix1 i) = IntOp.cmpi .sle (ids (ix1 i.castSucc)) (ids (ix1 i.succ)) := by
    have e0 : (extractStridedSlice Pre_ids_sorted.S11263 ![0] ids Pre_ids_sorted.Facts.slices_S11264_S11263_0) (ix1 i) = ids (ix1 i.castSucc) := by
      unfold extractStridedSlice
      congr 1
      funext a
      match a with
      | ⟨0, _⟩ => exact Fin.ext (Nat.zero_add _)
    have e1 : (extractStridedSlice Pre_ids_sorted.S11263 ![1] ids Pre_ids_sorted.Facts.slices_S11264_S11263_1) (ix1 i) = ids (ix1 i.succ) := by
      unfold extractStridedSlice
      congr 1
      funext a
      match a with
      | ⟨0, _⟩ => exact Fin.ext (Nat.add_comm _ _)
    exact congrArg₂ (IntOp.cmpi .sle) e0 e1
  rw [h] at e
  by_contra hc
  have : IntOp.cmpi .sle (ids (ix1 i.castSucc)) (ids (ix1 i.succ)) = 0#1 := by
    simp [IntOp.cmpi, BitVec.sle, hc]
  rw [this] at e
  exact absurd e (by show ¬(1#1 : BitVec 1) = 0#1; decide)

section Value
variable (m : (ℓ : Loc KernelIdeal.nD KernelIdeal.τ KernelIdeal.sig) → Buf (Elt Ideal) ℓ) (c : Dev KernelIdeal.nD)

/-- The reference's value of the kernel's arguments. -/
def rval : FVec Ideal ReferenceIdeal.S32000x2560 .f32 :=
  RI.res (KI.accOf m c) (KI.gOf m c : KernelIdeal.S22x512x32000.Idx → EReal) (KI.sOf m c) (KI.xOf m c : KernelIdeal.S22x512x2560.Idx → EReal) (KI.xsOf m c)
    (KI.idsOf m c) (KI.updOf m c : KernelIdeal.S11264x2560.Idx → EReal) (KI.esOf m c)

/-- A sum over tokens is the sum over batches of the sums over positions. -/
theorem sum_tokens (f : Fin 22 → Fin 512 → EReal) :
    ∑ q : Fin 11264, f (KI.tb q) (KI.ts q) = ∑ b : Fin 22, ∑ p : Fin 512, f b p := by
  rw [← Fin.sum_mul_add_fin (L := 11264) 22 512 fun q => f (KI.tb q) (KI.ts q)]
  refine Finset.sum_congr rfl fun b _ => Finset.sum_congr rfl fun p _ => congrArg₂ f (Fin.ext ?_) (Fin.ext ?_)
  · show (b.val * 512 + p.val) / 512 = b.val
    omega
  · show (b.val * 512 + p.val) % 512 = p.val
    omega

/-- The two values agree at every element. -/
theorem kval_eq (v : Fin 32000) (d : Fin 2560) : KI.kval m c v d = rval m c (ix2 v d) := by
  have hp : ∑ q : Fin 11264, KI.prod m c v d q = (RI.dot (RI.gs (KI.gOf m c : KernelIdeal.S22x512x32000.Idx → EReal) (KI.sOf m c))
      (RI.xsc (KI.xOf m c : KernelIdeal.S22x512x2560.Idx → EReal) (KI.xsOf m c)) (ix2 v d) : EReal) := by
    rw [RI.dot_apply, ← sum_tokens]
    refine Finset.sum_congr rfl fun q _ => ?_
    rw [RI.gs_apply, RI.xsc_apply]
    unfold KI.prod
    rw [mul_comm (KI.xOf m c _ : EReal) _, ← mul_assoc, ← mul_assoc, mul_assoc (KI.gOf m c _ : EReal) _ _]
  have hu : ∑ q : Fin 11264, KI.upd m c v d q = (RI.seg (KI.idsOf m c) (RI.esc (KI.updOf m c : KernelIdeal.S11264x2560.Idx → EReal) (KI.esOf m c)) (ix2 v d) : EReal) := by
    rw [RI.seg_apply]
    refine Finset.sum_congr rfl fun q _ => ?_
    rw [RI.esc_apply]
    unfold KI.upd
    exact if_congr Iff.rfl (mul_comm _ _) rfl
  unfold KI.kval
  rw [hp, hu]
  rfl

/-- The kernel's final result array is the reference's value. -/
theorem final_eq (hs : KI.Sorted (KI.idsOf m c)) : (KI.finalA m c 7 : Vec Ideal KernelIdeal.S32000x2560 .f32) = rval m c := by
  funext i
  obtain ⟨v, d, rfl⟩ := KI.arr_idx i
  exact (KI.final_apply m c hs v d).trans (kval_eq m c v d)
end Value

/-- THE ALGEBRAIC CLAIM: for sorted ids, from memories agreeing on the arguments, the kernel's result and the
    reference's are equal as extended reals, element by element. -/
theorem algebraic : Cert.algebraic_KernelIdeal_ReferenceIdeal_pre_ids_sorted (hKernelIdeal := Cert.KernelIdeal.Gen.facts)
    (hReferenceIdeal := Cert.ReferenceIdeal.Gen.facts) (hPre_ids_sorted := Pre.facts) := by
  intro m g m' g' hpre hagree
  refine ⟨fun c => rval m c, (θ_run _ _ _).mono (fun r h c => ⟨(h.1.1 c).trans ?_, h.1.2 c⟩) (KI.run_frame m g),
    (θ_run _ _ _).mono (fun r h c => ⟨(h.1 c).trans ?_, h.2 c⟩) (θ_run_and (RI.run_value m' g') (Cert.ReferenceIdeal.Gen.unchanged m' g'))⟩
  · exact final_eq m c (@sorted_of_pre Pre.facts _ _ _ _ _ _ _ _ (hpre c))
  · obtain ⟨h0, h1, h2, h3, h4, h5, h6, h7⟩ := hagree c
    unfold RI.rres rval
    rw [h0, h1, h2, h3, h4, h5, h6, h7]

end Cert.Proof
-- ==== Proof.lean ====
/-
  The claim assembled: the three programs' frames, and (at the ideal instance) the kernel's result equal to the
  reference's.
-/
module

public import proofs.«01_k».proof.Defs
public import proofs.«01_k».proof.Proof.K.Run
public import proofs.«01_k».proof.Proof.KI.Run
public import proofs.«01_k».proof.Proof.Equal
public import proofs.«01_k».proof.Proof.Gen.ReferenceIdeal.Frame

@[expose] public section

noncomputable section

namespace Cert.Proof

open Idealize.ShloMosaic Idealize.SL.Sem Cert.Kernel

/-- The kernel, at its bit patterns, terminates without fault and leaves its arguments unchanged. -/
theorem quiescent_Kernel : Cert.quiescent_Kernel := fun m ρ _ =>
  (θ_run _ _ _).mono (fun _ h => ⟨h.1.2, h.2⟩) (K.run_frame m ρ)

/-- So does the ideal kernel. -/
theorem quiescent_KernelIdeal : Cert.quiescent_KernelIdeal := fun m ρ _ =>
  (θ_run _ _ _).mono (fun _ h => ⟨h.1.2, h.2⟩) (KI.run_frame m ρ)

/-- Every claim of the certificate. -/
theorem claim : Cert.Claim :=
  ⟨Cert.Kernel.Gen.facts, Cert.KernelIdeal.Gen.facts, Cert.ReferenceIdeal.Gen.facts, Pre.facts, quiescent_Kernel, quiescent_KernelIdeal,
    fun m ρ _ => quiescent_KernelIdeal m ρ trivial,
    fun m ρ _ => Cert.ReferenceIdeal.Gen.frame m ρ, fun m ρ _ => Cert.ReferenceIdeal.Gen.frame m ρ, trivial, algebraic⟩

end Cert.Proof

end
